-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x1024 : Shape := ⟨3, ![6, 4096, 1024]⟩
abbrev S6x4096 : Shape := ⟨2, ![6, 4096]⟩
abbrev S6x4096x16 : Shape := ⟨3, ![6, 4096, 16]⟩
abbrev S8192x1024 : Shape := ⟨2, ![8192, 1024]⟩
abbrev S8192 : Shape := ⟨1, ![8192]⟩
abbrev S8192x16 : Shape := ⟨2, ![8192, 16]⟩
abbrev S16x1024 : Shape := ⟨2, ![16, 1024]⟩
abbrev S24576x1024 : Shape := ⟨2, ![24576, 1024]⟩
abbrev S12x1x2048 : Shape := ⟨3, ![12, 1, 2048]⟩
abbrev S24576x16 : Shape := ⟨2, ![24576, 16]⟩
abbrev S1x8192 : Shape := ⟨2, ![1, 8192]⟩
abbrev S16x8192 : Shape := ⟨2, ![16, 8192]⟩
abbrev S24576x8192 : Shape := ⟨2, ![24576, 8192]⟩
abbrev S2048x1024 : Shape := ⟨2, ![2048, 1024]⟩
abbrev S1x1x2048 : Shape := ⟨3, ![1, 1, 2048]⟩
abbrev S2048x16 : Shape := ⟨2, ![2048, 16]⟩
abbrev S2048x128 : Shape := ⟨2, ![2048, 128]⟩
abbrev S1x1x128 : Shape := ⟨3, ![1, 1, 128]⟩
abbrev S1x128 : Shape := ⟨2, ![1, 128]⟩
abbrev S128x128 : Shape := ⟨2, ![128, 128]⟩
abbrev S1x2048 : Shape := ⟨2, ![1, 2048]⟩
abbrev S16x2048 : Shape := ⟨2, ![16, 2048]⟩
abbrev S2048x1 : Shape := ⟨2, ![2048, 1]⟩
abbrev S1024x1024 : Shape := ⟨2, ![1024, 1024]⟩
abbrev S1x1024 : Shape := ⟨2, ![1, 1024]⟩
abbrev S6x4096x8192 : Shape := ⟨3, ![6, 4096, 8192]⟩

abbrev nBuf : Space → Nat
  | .hbm => 19
  | .vmem => 18
  | .smem => 0
  | _ => 0

abbrev bufTy : (tb : Table) → Fin (tcTables nBuf tb) → BufTy
  | .hbm, ⟨0, _⟩ => ⟨S6x4096x1024, .fp8e5m2⟩
  | .hbm, ⟨1, _⟩ => ⟨S6x4096, .f32⟩
  | .hbm, ⟨2, _⟩ => ⟨S6x4096x16, .fp8e4m3⟩
  | .hbm, ⟨3, _⟩ => ⟨S6x4096, .f32⟩
  | .hbm, ⟨4, _⟩ => ⟨S8192x1024, .fp8e4m3⟩
  | .hbm, ⟨5, _⟩ => ⟨S8192, .f32⟩
  | .hbm, ⟨6, _⟩ => ⟨S8192x16, .bf16⟩
  | .hbm, ⟨7, _⟩ => ⟨S16x1024, .bf16⟩
  | .hbm, ⟨8, _⟩ => ⟨S24576x1024, .fp8e5m2⟩
  | .hbm, ⟨9, _⟩ => ⟨S12x1x2048, .f32⟩
  | .hbm, ⟨10, _⟩ => ⟨S24576x16, .fp8e4m3⟩
  | .hbm, ⟨11, _⟩ => ⟨S12x1x2048, .f32⟩
  | .hbm, ⟨12, _⟩ => ⟨S1x8192, .f32⟩
  | .hbm, ⟨13, _⟩ => ⟨S16x8192, .bf16⟩
  | .hbm, ⟨14, _⟩ => ⟨S24576x8192, .bf16⟩
  | .hbm, ⟨15, _⟩ => ⟨S16x1024, .f32⟩
  | .hbm, ⟨16, _⟩ => ⟨S24576x16, .bf16⟩
  | .hbm, ⟨17, _⟩ => ⟨S6x4096x8192, .bf16⟩
  | .hbm, ⟨18, _⟩ => ⟨S6x4096x16, .bf16⟩
  | .local _ .vmem, ⟨0, _⟩ => ⟨S2048x1024, .fp8e5m2⟩
  | .local _ .vmem, ⟨1, _⟩ => ⟨S2048x1024, .fp8e5m2⟩
  | .local _ .vmem, ⟨2, _⟩ => ⟨S1x1x2048, .f32⟩
  | .local _ .vmem, ⟨3, _⟩ => ⟨S1x1x2048, .f32⟩
  | .local _ .vmem, ⟨4, _⟩ => ⟨S2048x16, .fp8e4m3⟩
  | .local _ .vmem, ⟨5, _⟩ => ⟨S2048x16, .fp8e4m3⟩
  | .local _ .vmem, ⟨6, _⟩ => ⟨S1x1x2048, .f32⟩
  | .local _ .vmem, ⟨7, _⟩ => ⟨S1x1x2048, .f32⟩
  | .local _ .vmem, ⟨8, _⟩ => ⟨S8192x1024, .fp8e4m3⟩
  | .local _ .vmem, ⟨9, _⟩ => ⟨S1x8192, .f32⟩
  | .local _ .vmem, ⟨10, _⟩ => ⟨S16x8192, .bf16⟩
  | .local _ .vmem, ⟨11, _⟩ => ⟨S16x1024, .bf16⟩
  | .local _ .vmem, ⟨12, _⟩ => ⟨S2048x1024, .bf16⟩
  | .local _ .vmem, ⟨13, _⟩ => ⟨S2048x1024, .bf16⟩
  | .local _ .vmem, ⟨14, _⟩ => ⟨S16x1024, .f32⟩
  | .local _ .vmem, ⟨15, _⟩ => ⟨S2048x16, .bf16⟩
  | .local _ .vmem, ⟨16, _⟩ => ⟨S2048x16, .bf16⟩
  | .local _ .vmem, ⟨17, _⟩ => ⟨S2048x128, .f32⟩
  | _, _ => ⟨S6x4096x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![12, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_off2 (i : grid0.Coords) : Fin 2 → Nat :=
  let c0_5 : Index := 0#32
  let arg1 : BitVec 32 := BitVec.ofNat 32 (i 1).val
  let c1024_i32 : BitVec 32 := 1024#32
  let v3 : BitVec 32 := Scalar.muli arg1 c1024_i32
  let v4 : BitVec 32 := v3
  let v12 : Index := Scalar.indexCast v4
  ![0, v12.toNat]
def k0_off3 (i : grid0.Coords) : Fin 2 → Nat :=
  let c0_7 : Index := 0#32
  let arg1 : BitVec 32 := BitVec.ofNat 32 (i 1).val
  let c1024_i32 : BitVec 32 := 1024#32
  let v3 : BitVec 32 := Scalar.muli arg1 c1024_i32
  let v4 : BitVec 32 := v3
  let v16 : Index := Scalar.indexCast v4
  ![0, v16.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_94 : BitVec 32 := 0#32
  let v186 : BitVec 1 := Scalar.cmpi .eq arg0 c0_i32_94
  let v187 : BitVec 32 := Scalar.extui v186
  let c0_i32_95 : BitVec 32 := 0#32
  let v188 : BitVec 1 := Scalar.cmpi .ne v187 c0_i32_95
  v188

def k0_cond3 (i : grid0.Coords) : BitVec 1 :=
  let arg0 : BitVec 32 := BitVec.ofNat 32 (i 0).val
  let c0_i32_96 : BitVec 32 := 0#32
  let v189 : BitVec 1 := Scalar.cmpi .sgt arg0 c0_i32_96
  let v190 : BitVec 32 := Scalar.extui v189
  let c0_i32_97 : BitVec 32 := 0#32
  let v191 : BitVec 1 := Scalar.cmpi .ne v190 c0_i32_97
  v191

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x16 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8192x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x16 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S6x4096x1024 : Shape := ⟨3, ![6, 4096, 1024]⟩
abbrev S6x4096 : Shape := ⟨2, ![6, 4096]⟩
abbrev S6x4096x16 : Shape := ⟨3, ![6, 4096, 16]⟩
abbrev S8192x1024 : Shape := ⟨2, ![8192, 1024]⟩
abbrev S8192 : Shape := ⟨1, ![8192]⟩
abbrev S8192x16 : Shape := ⟨2, ![8192, 16]⟩
abbrev S16x1024 : Shape := ⟨2, ![16, 1024]⟩
abbrev S6x4096x8192 : Shape := ⟨3, ![6, 4096, 8192]⟩
abbrev S6x4096x1 : Shape := ⟨3, ![6, 4096, 1]⟩
abbrev S1x1x8192 : Shape := ⟨3, ![1, 1, 8192]⟩

abbrev nBuf : Space → Nat
  | .hbm => 11
  | .vmem => 11
  | .smem => 0
  | _ => 0

abbrev bufTy : (tb : Table) → Fin (tcTables nBuf tb) → BufTy
  | .hbm, ⟨0, _⟩ => ⟨S6x4096x1024, .fp8e5m2⟩
  | .hbm, ⟨1, _⟩ => ⟨S6x4096, .f32⟩
  | .hbm, ⟨2, _⟩ => ⟨S6x4096x16, .fp8e4m3⟩
  | .hbm, ⟨3, _⟩ => ⟨S6x4096, .f32⟩
  | .hbm, ⟨4, _⟩ => ⟨S8192x1024, .fp8e4m3⟩
  | .hbm, ⟨5, _⟩ => ⟨S8192, .f32⟩
  | .hbm, ⟨6, _⟩ => ⟨S8192x16, .bf16⟩
  | .hbm, ⟨7, _⟩ => ⟨S16x1024, .bf16⟩
  | .hbm, ⟨8, _⟩ => ⟨S6x4096x8192, .bf16⟩
  | .hbm, ⟨9, _⟩ => ⟨S16x1024, .f32⟩
  | .hbm, ⟨10, _⟩ => ⟨S6x4096x16, .bf16⟩
  | .local _ .vmem, ⟨0, _⟩ => ⟨S6x4096x1024, .fp8e5m2⟩
  | .local _ .vmem, ⟨1, _⟩ => ⟨S6x4096, .f32⟩
  | .local _ .vmem, ⟨2, _⟩ => ⟨S6x4096x16, .fp8e4m3⟩
  | .local _ .vmem, ⟨3, _⟩ => ⟨S6x4096, .f32⟩
  | .local _ .vmem, ⟨4, _⟩ => ⟨S8192x1024, .fp8e4m3⟩
  | .local _ .vmem, ⟨5, _⟩ => ⟨S8192, .f32⟩
  | .local _ .vmem, ⟨6, _⟩ => ⟨S8192x16, .bf16⟩
  | .local _ .vmem, ⟨7, _⟩ => ⟨S16x1024, .bf16⟩
  | .local _ .vmem, ⟨8, _⟩ => ⟨S6x4096x8192, .bf16⟩
  | .local _ .vmem, ⟨9, _⟩ => ⟨S16x1024, .f32⟩
  | .local _ .vmem, ⟨10, _⟩ => ⟨S6x4096x16, .bf16⟩
  | _, _ => ⟨S6x4096x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x4096x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x16 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x4096x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x4096x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Closed.lean ====
/-
  What one grid point of the kernel leaves in its buffers, as plain functions of the blocks it is handed.
-/
module

public import proofs.«01_k».proof.Proof.Gen.KernelIdeal.Frame
public import proofs.«01_k».proof.Proof.Gen.KernelIdeal.Skeleton
public import Idealize.ShloMosaic.Lib.ValueIdxCore
public import Idealize.ShloMosaic.Lib.Pipeline.Value
public import Idealize.ShloMosaic.Lib.Pipeline.ValueKit.Basic
public import Idealize.ShloMosaic.Lib.Pipeline.ReadBack

@[expose] public section

set_option maxRecDepth 16384

noncomputable section

namespace Cert.KernelIdeal.Val

open Cert.KernelIdeal Cert.KernelIdeal.Gen
open Idealize.ShloMosaic Idealize.ShloMosaic.ValueIdx Idealize.SL.Sem

variable {F : FTy → Type} [FloatOps F]

/-- The scratch buffer of a row block: the row of scales `s`, laid down the rows and repeated along the lanes. -/
def colOf (s : Vec F S1x1x2048 .f32) : Vec F S2048x128 .f32 := fun y => s (ix3 0 0 (y 0))

/-- The rank-16 gradient `dh` of a row block, from its `dy`, its scales and the whole of `lora_b`. -/
def dhOf (x0 : Vec F S2048x1024 .fp8e5m2) (x1 : Vec F S1x1x2048 .f32) (x7 : Vec F S16x1024 .bf16) : Vec F S2048x16 .bf16 :=
  k0_pay1 (k0_pay24 (colOf x1) x0 x7) (Scalar.ofBits .f32 0x40000000#32)

/-- What a row block contributes to the gradient of `lora_b`. -/
def partOf (x0 : Vec F S2048x1024 .fp8e5m2) (x1 : Vec F S1x1x2048 .f32) (x2 : Vec F S2048x16 .fp8e4m3) (x3 : Vec F S1x1x2048 .f32) :
    Vec F S16x1024 .f32 :=
  k0_pay2 (colOf x1) (k0_pay23 x0) x3 x2

/-- The `dx` block of a grid point, from the row block's `dy`, `dh` and scratch, and the column block of the weights. -/
def dxOf (i : grid0.Coords) (x0 : Vec F S2048x1024 .fp8e5m2) (x4 : Vec F S8192x1024 .fp8e4m3) (x5 : Vec F S1x8192 .f32)
    (x6 : Vec F S16x8192 .bf16) (d : Vec F S2048x16 .bf16) (s : Vec F S2048x128 .f32) : Vec F S2048x1024 .bf16 :=
  k0_pay4 (View.ld x4 (Rect.unit (s := S8192x1024) (k0_off1 i) S1024x1024.size (k0_off1_inb i))) x0 d
    (View.ld x6 (Rect.unit (s := S16x8192) (k0_off2 i) S16x1024.size (k0_off2_inb i)))
    (View.ld x5 (Rect.unit (s := S1x8192) (k0_off3 i) S1x1024.size (k0_off3_inb i)))
    (View.ld s (Rect.unit (s := S2048x128) ![0, 0] S2048x1.size inb_S2048x128_S2048x1_0_0))

/-- The point is the first of its row block. -/
abbrev cond0_0 (i : grid0.Coords) : Prop := k0_cond1 i = 1#1
/-- The point's row block is the first. -/
abbrev cond0_1 (i : grid0.Coords) : Prop := k0_cond2 i = 1#1
/-- The point's row block is a later one. -/
abbrev cond0_2 (i : grid0.Coords) : Prop := k0_cond3 i = 1#1

/-- Zero offsets, however spelt. -/
theorem hz2 : (![0, 0] : Fin 2 → Nat) = fun _ => 0 := funext fun a => by fin_cases a <;> rfl
/-- Zero offsets, however spelt. -/
theorem hz3 : (![0, 0, 0] : Fin 3 → Nat) = fun _ => 0 := funext fun a => by fin_cases a <;> rfl

/-- A buffer one store has filled whole reads what was stored. -/
theorem read_stored {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

end Cert.KernelIdeal.Val

end
-- ==== Proof.Data.lean ====
/-
  The schedule of the grid and the proof data of its pipeline: what each staging buffer and the scratch hold after
  every grid point.
-/
module

public import proofs.«01_k».proof.Proof.Closed
public import Idealize.ShloMosaic.Lib.Pipeline.TableIdle

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: point `t` is column block `t % 8` of row block `t / 8` -/

/-- The first branch runs at the first point of each row block. -/
theorem cond0_iff : ∀ t : Fin grid0.N, cond0_0 (grid0.coords t) ↔ t.val % 8 = 0 := by decide +kernel
/-- The second branch's guard holds on the first row block. -/
theorem cond1_iff : ∀ t : Fin grid0.N, cond0_1 (grid0.coords t) ↔ t.val < 8 := by decide +kernel
/-- The third branch's guard holds on the later row blocks. -/
theorem cond2_iff : ∀ t : Fin grid0.N, cond0_2 (grid0.coords t) ↔ 8 ≤ t.val := by decide +kernel

/-- The gradient of `lora_b` is stored at the first point of each row block only. -/
theorem idle_9 : ∀ t : Fin grid0.N, cfg0.idle 9 (grid0.coords t) = !(t.val % 8 == 0) := by decide +kernel
/-- `dh` is stored at the first point of each row block only. -/
theorem idle_10 : ∀ t : Fin grid0.N, cfg0.idle 10 (grid0.coords t) = !(t.val % 8 == 0) := by decide +kernel

/-- The grid has 96 points. -/
theorem lt96 (t : Fin cfg0.N) : t.val < 96 := lt_of_lt_of_eq t.isLt (show cfg0.N = 96 from N_0)

/-- The gradient of `lora_b` is written back after the last point only. -/
theorem flush_9 (t : Fin cfg0.N) : (cfg0.win 9).flush t = (t.val == 95) := by
  have h := flush0_9 t
  have := lt96 t
  rw [Bool.eq_iff_iff, h, beq_iff_eq]; omega
/-- `dh` is written back after the last point of each row block. -/
theorem flush_10 (t : Fin cfg0.N) : (cfg0.win 10).flush t = (t.val % 8 == 7) := by
  have h := flush0_10 t
  rw [Bool.eq_iff_iff, h, beq_iff_eq]

/-- The buffer of the gradient of `lora_b` holds nothing stored before the first point only. -/
theorem fresh_9 (t : Fin cfg0.N) : cfg0.fresh 9 t.val = (t.val == 0) := by
  have := lt96 t
  rw [cfg0.fresh_tab 9 (fun n => n == 0 || decide (96 ≤ n)) rfl (fun t => by
    rw [flush_9 t, show cfg0.idle 9 (cfg0.grid.coords t) = _ from idle_9 t]
    have := lt96 t
    rw [Bool.eq_iff_iff]
    simp only [Bool.or_eq_true, Bool.and_eq_true, beq_iff_eq, decide_eq_true_eq, Bool.not_eq_true', beq_eq_false_iff_ne]
    omega) t.val t.isLt.le]
  rw [Bool.eq_iff_iff]
  simp only [Bool.or_eq_true, beq_iff_eq, decide_eq_true_eq]
  omega
/-- The buffer of `dh` holds nothing stored before the first point of a row block only. -/
theorem fresh_10 (t : Fin cfg0.N) : cfg0.fresh 10 t.val = (t.val % 8 == 0) :=
  cfg0.fresh_tab 10 (fun n => n % 8 == 0) rfl (fun t => by
    rw [flush_10 t, show cfg0.idle 10 (cfg0.grid.coords t) = _ from idle_10 t]
    rw [Bool.eq_iff_iff]
    simp only [Bool.or_eq_true, Bool.and_eq_true, beq_iff_eq, Bool.not_eq_true', beq_eq_false_iff_ne]
    omega) t.val t.isLt.le

/-- The first point of the row block that point `n` lies in. -/
def head (n : ℕ) : Fin cfg0.N := ⟨8 * (n / 8 % 12), by have : cfg0.N = 96 := N_0; omega⟩

/-- The number of the first point of a row block. -/
theorem head_val (t : Fin cfg0.N) : (head t.val).val = 8 * (t.val / 8) := by
  have := lt96 t
  show 8 * (t.val / 8 % 12) = _; omega
/-- The first point of a row block is its own first point. -/
theorem head_self (t : Fin cfg0.N) (h : t.val % 8 = 0) : head t.val = t := Fin.ext (by rw [head_val]; omega)
/-- A later point of a row block has the same first point as the point before it. -/
theorem head_pred (t : Fin cfg0.N) (h : t.val % 8 ≠ 0) : head (t.val - 1) = head t.val :=
  Fin.ext (by show 8 * ((t.val - 1) / 8 % 12) = 8 * (t.val / 8 % 12); omega)

/-! ## What the buffers hold -/

variable (m : (ℓ : Loc nD τ sig) → Buf (Elt F) ℓ) (ρ : Dev nD → PrngReg)

/-- The scratch after the first point `t` of a row block. -/
def colAt (c : Dev nD) (t : Fin cfg0.N) : Vec F S2048x128 .f32 := colOf (iblk m c 1 t)

/-- `dh` after the first point `t` of a row block. -/
def dhAt (c : Dev nD) (t : Fin cfg0.N) : Vec F S2048x16 .bf16 := dhOf (iblk m c 0 t) (iblk m c 1 t) (iblk m c 7 t)

/-- The gradient of `lora_b` accumulated through point `n`. -/
def dbAt (c : Dev nD) : (n : ℕ) → n < cfg0.N → Vec F S16x1024 .f32
  | 0, h => partOf (iblk m c 0 ⟨0, h⟩) (iblk m c 1 ⟨0, h⟩) (iblk m c 2 ⟨0, h⟩) (iblk m c 3 ⟨0, h⟩)
  | n + 1, h =>
    if (n + 1) % 8 = 0 then
      k0_pay3 (colAt m c ⟨n + 1, h⟩) (k0_pay23 (iblk m c 0 ⟨n + 1, h⟩)) (iblk m c 3 ⟨n + 1, h⟩) (iblk m c 2 ⟨n + 1, h⟩)
        (dbAt c n (Nat.lt_of_succ_lt h))
    else dbAt c n (Nat.lt_of_succ_lt h)

/-- The first point stores its contribution. -/
theorem dbAt_zero (c : Dev nD) (t : Fin cfg0.N) (h : t.val = 0) :
    dbAt m c t.val t.isLt = partOf (iblk m c 0 t) (iblk m c 1 t) (iblk m c 2 t) (iblk m c 3 t) := by
  obtain ⟨n, hn⟩ := t; obtain rfl : n = 0 := h; rfl
/-- The first point of a later row block adds its contribution. -/
theorem dbAt_open (c : Dev nD) (t : Fin cfg0.N) (h0 : t.val ≠ 0) (h : t.val % 8 = 0) :
    dbAt m c t.val t.isLt = k0_pay3 (colAt m c t) (k0_pay23 (iblk m c 0 t)) (iblk m c 3 t) (iblk m c 2 t)
      (dbAt m c (t.val - 1) (by omega)) := by
  obtain ⟨n, hn⟩ := t
  cases n with
  | zero => exact absurd rfl h0
  | succ n => exact if_pos h
/-- Any other point leaves the accumulated gradient alone. -/
theorem dbAt_idle (c : Dev nD) (t : Fin cfg0.N) (h : t.val % 8 ≠ 0) :
    dbAt m c t.val t.isLt = dbAt m c (t.val - 1) (by omega) := by
  obtain ⟨n, hn⟩ := t
  cases n with
  | zero => exact absurd rfl h
  | succ n => exact if_neg h

/-- The `dx` block point `t` writes. -/
def dxAt (c : Dev nD) (t : Fin cfg0.N) : Vec F S2048x1024 .bf16 :=
  dxOf (grid0.coords t) (iblk m c 0 t) (iblk m c 4 t) (iblk m c 5 t) (iblk m c 6 t) (dhAt m c (head t.val)) (colAt m c (head t.val))

/-- The scratch operand, a buffer of the kernel's own. -/
abbrev scM0_0 : Memref sig .tc .vmem S2048x128 .f32 := Memref.whole cc0_scratch0

/-- What passes from point to point beside the windows: at the start anything, later the row block's column of
scales in the scratch. -/
def Phi (c : Dev nD) : ℕ → sProp 𝕄
  | 0 => Pipeline.ΦA spec0 c
  | n + 1 => iprop(owns (c : Thread nD τ) scM0_0 fullShare (colAt m c (head n)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxAt m c t
    | ⟨9, _⟩ => dbAt m c t.val t.isLt
    | ⟨10, _⟩ => dhAt m c (head t.val)
  Φ t := Phi m c t.val
  q _ := fullShare
  owed _ := 0

/-- The arrays are what the region finds. -/
theorem A_eq (c : Dev nD) (w : Fin cfg0.W) : (dats m 0 c).A w = V m c (Pipeline.arrRef spec0 w) := by
  dsimp only [dats]

/-- What window 0's buffer holds after a point. -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]
/-- What window 5's buffer holds after a point. -/
theorem after0_5 (c : Dev nD) (t : Fin cfg0.N) : (dats m 0 c).after 5 t = iblk m c 5 t := by dsimp only [dats]
/-- What window 6's buffer holds after a point. -/
theorem after0_6 (c : Dev nD) (t : Fin cfg0.N) : (dats m 0 c).after 6 t = iblk m c 6 t := by dsimp only [dats]
/-- What window 7's buffer holds after a point. -/
theorem after0_7 (c : Dev nD) (t : Fin cfg0.N) : (dats m 0 c).after 7 t = iblk m c 7 t := by dsimp only [dats]
/-- What window 8's buffer holds after a point. -/
theorem after0_8 (c : Dev nD) (t : Fin cfg0.N) : (dats m 0 c).after 8 t = dxAt m c t := by dsimp only [dats]
/-- What window 9's buffer holds after a point. -/
theorem after0_9 (c : Dev nD) (t : Fin cfg0.N) : (dats m 0 c).after 9 t = dbAt m c t.val t.isLt := by dsimp only [dats]
/-- What window 10's buffer holds after a point. -/
theorem after0_10 (c : Dev nD) (t : Fin cfg0.N) : (dats m 0 c).after 10 t = dhAt m c (head t.val) := by dsimp only [dats]

/-- What window 0's buffer holds before a point: its block. -/
theorem before0_0 (c : Dev nD) (t : Fin cfg0.N) (d) : (dats m 0 c).before 0 t d = iblk m c 0 t :=
  before0_0_of m (dats m 0 c) (A_eq m c 0) (after0_0 m c) t d
/-- What window 1's buffer holds before a point: its block. -/
theorem before0_1 (c : Dev nD) (t : Fin cfg0.N) (d) : (dats m 0 c).before 1 t d = iblk m c 1 t :=
  before0_1_of m (dats m 0 c) (A_eq m c 1) (after0_1 m c) t d
/-- What window 2's buffer holds before a point: its block. -/
theorem before0_2 (c : Dev nD) (t : Fin cfg0.N) (d) : (dats m 0 c).before 2 t d = iblk m c 2 t :=
  before0_2_of m (dats m 0 c) (A_eq m c 2) (after0_2 m c) t d
/-- What window 3's buffer holds before a point: its block. -/
theorem before0_3 (c : Dev nD) (t : Fin cfg0.N) (d) : (dats m 0 c).before 3 t d = iblk m c 3 t :=
  before0_3_of m (dats m 0 c) (A_eq m c 3) (after0_3 m c) t d
/-- What window 4's buffer holds before a point: its block. -/
theorem before0_4 (c : Dev nD) (t : Fin cfg0.N) (d) : (dats m 0 c).before 4 t d = iblk m c 4 t :=
  before0_4_of m (dats m 0 c) (A_eq m c 4) (after0_4 m c) t d
/-- What window 5's buffer holds before a point: its block. -/
theorem before0_5 (c : Dev nD) (t : Fin cfg0.N) (d) : (dats m 0 c).before 5 t d = iblk m c 5 t :=
  before0_5_of m (dats m 0 c) (A_eq m c 5) (after0_5 m c) t d
/-- What window 6's buffer holds before a point: its block. -/
theorem before0_6 (c : Dev nD) (t : Fin cfg0.N) (d) : (dats m 0 c).before 6 t d = iblk m c 6 t :=
  before0_6_of m (dats m 0 c) (A_eq m c 6) (after0_6 m c) t d
/-- What window 7's buffer holds before a point: its block. -/
theorem before0_7 (c : Dev nD) (t : Fin cfg0.N) (d) : (dats m 0 c).before 7 t d = iblk m c 7 t :=
  before0_7_of m (dats m 0 c) (A_eq m c 7) (after0_7 m c) t d

/-- Away from the first point, the buffer of the gradient of `lora_b` holds what has been accumulated so far. -/
theorem before0_9 (c : Dev nD) (t : Fin cfg0.N) (h : t.val ≠ 0) (d) :
    (dats m 0 c).before 9 t d = dbAt m c (t.val - 1) (by omega) := by
  rw [(dats m 0 c).before_out_traj 9 rfl (fun _ _ => rfl) (fun t _ hi _ => by
    rw [show cfg0.idle 9 (cfg0.grid.coords t) = _ from idle_9 t] at hi
    rw [after0_9, after0_9]
    exact dbAt_idle m c t (by simpa using hi)) t.val t rfl d, fresh_9, if_neg (by simpa using h), after0_9]
/-- Away from the first point of a row block, the buffer of `dh` holds the row block's `dh`. -/
theorem before0_10 (c : Dev nD) (t : Fin cfg0.N) (h : t.val % 8 ≠ 0) (d) :
    (dats m 0 c).before 10 t d = dhAt m c (head t.val) := by
  rw [(dats m 0 c).before_out_traj 10 rfl (fun _ _ => rfl) (fun t _ hi _ => by
    rw [show cfg0.idle 10 (cfg0.grid.coords t) = _ from idle_10 t] at hi
    rw [after0_10, after0_10]
    exact congrArg (dhAt m c) (head_pred t (by simpa using hi)).symm) t.val t rfl d, fresh_10, if_neg (by simpa using h), after0_10]
  exact congrArg (dhAt m c) (head_pred t h)

end Cert.KernelIdeal.Val

end
-- ==== Proof.Scratch.lean ====
/-
  The scratch buffer a row block's first point fills: sixteen strips of 128 rows, each a strip of the scales turned
  into a column and repeated along the lanes.
-/
module

public import proofs.«01_k».proof.Proof.Closed

@[expose] public section

set_option maxRecDepth 16384

noncomputable section

namespace Cert.KernelIdeal.Val

open Cert.KernelIdeal Cert.KernelIdeal.Gen
open Idealize.ShloMosaic Idealize.ShloMosaic.ValueIdx Idealize.SL.Sem

variable {F : FTy → Type} [FloatOps F]

/-- The strip of 128 scales starting at `128 c`. -/
def strip (x1 : Vec F S1x1x2048 .f32) (c : Fin 16) : Vec F S1x1x128 .f32 :=
  View.ld x1 (Rect.unit (s := S1x1x2048) ![0, 0, 128 * c.val] S1x1x128.size
    (fun a => by have := c.isLt; fin_cases a <;> simp [S1x1x128, S1x1x2048] <;> omega))

/-- The store of strip `c`. -/
def chunk (x1 : Vec F S1x1x2048 .f32) (c : Fin 16) : View.Piece (Elt F) S2048x128 .f32 :=
  ⟨Rect.unit ![128 * c.val, 0] S128x128.size
    (fun a => by have := c.isLt; fin_cases a <;> simp [S128x128, S2048x128] <;> omega), k0_pay5 (strip x1 c)⟩

/-- The sixteen stores, last first. -/
def chunks (x1 : Vec F S1x1x2048 .f32) : List (View.Piece (Elt F) S2048x128 .f32) :=
  [chunk x1 15, chunk x1 14, chunk x1 13, chunk x1 12, chunk x1 11, chunk x1 10, chunk x1 9, chunk x1 8,
   chunk x1 7, chunk x1 6, chunk x1 5, chunk x1 4, chunk x1 3, chunk x1 2, chunk x1 1, chunk x1 0]

/-- A strip, broadcast over 128 rows and transposed, has entry `(r, l)` equal to scale `r` of the strip. -/
theorem pay5_apply (v : Vec F S1x1x128 .f32) (r l : Fin 128) : k0_pay5 v (ix2 r l) = v (ix3 0 0 r) := by
  unfold k0_pay5
  dsimp only
  rw [shapeCast_self]
  refine (transpose_apply _ _ _ (ix2 r l) (ix2 l r) (fun b => by fin_cases b <;> rfl)).trans ?_
  refine (broadcastTo_apply _ _ (ix2 l r) (ix2 0 r) (fun a => by fin_cases a <;> rfl)).trans ?_
  rw [shapeCast_self]
  exact shapeCast_apply _ _ _ (ix3 0 0 r) (by
    refine (Shape.rowMajor_val_three (d := ![1, 1, 128]) _).trans (Eq.trans ?_ (Shape.rowMajor_val_two (d := ![1, 128]) _).symm)
    simp [ix2, ix3])

/-- Every chunk is among the chunks. -/
theorem mem_chunks (x1 : Vec F S1x1x2048 .f32) (c : Fin 16) : chunk x1 c ∈ chunks x1 := by
  unfold chunks; fin_cases c <;> simp

/-- What is among the chunks is a chunk. -/
theorem of_mem_chunks (x1 : Vec F S1x1x2048 .f32) {p} (h : p ∈ chunks x1) : ∃ c, p = chunk x1 c := by
  simp only [chunks, List.mem_cons, List.not_mem_nil, or_false] at h
  rcases h with h | h | h | h | h | h | h | h | h | h | h | h | h | h | h | h <;> exact ⟨_, h⟩

/-- Every row of the scratch lies in one strip. -/
theorem chunks_cover (x1 : Vec F S1x1x2048 .f32) (y : S2048x128.Idx) : ∃ p ∈ chunks x1, y ∈ p.1.set := by
  have h0 : (y 0).val < 2048 := (y 0).isLt
  have h1 : (y 1).val < 128 := (y 1).isLt
  refine ⟨_, mem_chunks x1 ⟨(y 0).val / 128, by omega⟩, ?_⟩
  rw [chunk, Rect.mem_set_unit]
  intro a
  fin_cases a
  · show 128 * ((y 0).val / 128) ≤ (y 0).val ∧ (y 0).val < 128 * ((y 0).val / 128) + 128
    omega
  · show 0 ≤ (y 1).val ∧ (y 1).val < 0 + 128
    omega

/-- The sixteen stores together leave the column of scales in every lane. -/
theorem canon_chunks (x1 : Vec F S1x1x2048 .f32) : View.canon (chunks x1) = colOf x1 := by
  funext y
  refine View.canon_apply_of_pieces (colOf x1) _ (fun p hp x => ?_) y (chunks_cover x1 y)
  obtain ⟨c, rfl⟩ := of_mem_chunks x1 hp
  obtain ⟨r, l, rfl⟩ : ∃ (r l : Fin 128), x = ix2 r l := ⟨x 0, x 1, eq_ix2 x⟩
  refine (pay5_apply (strip x1 c) r l).trans ?_
  unfold colOf strip View.ld
  refine congrArg x1 (funext fun a => Fin.ext ?_)
  fin_cases a
  · rfl
  · rfl
  · rfl

/-- The stores as a grid point makes them, each strip loaded from the buffer `m` of scales. -/
theorem stores_eq_chunks {κ : Kind} {sp : Space} (m : Memref sig κ sp S1x1x2048 .f32) (h : m.IsWhole) (x1 : Vec F S1x1x2048 .f32) :
    ([⟨Rect.unit (s := S2048x128) ![1920, 0] S128x128.size inb_S2048x128_S128x128_1920_0,
            k0_pay22
              (View.readAt (Elt F) m.view
                (Rect.unit (s := S1x1x2048) ![0, 0, 1920] S1x1x128.size inb_S1x1x2048_S1x1x128_0_0_1920).toLoadRect (h.unread x1))⟩,
          ⟨Rect.unit (s := S2048x128) ![1792, 0] S128x128.size inb_S2048x128_S128x128_1792_0,
            k0_pay21
              (View.readAt (Elt F) m.view
                (Rect.unit (s := S1x1x2048) ![0, 0, 1792] S1x1x128.size inb_S1x1x2048_S1x1x128_0_0_1792).toLoadRect (h.unread x1))⟩,
          ⟨Rect.unit (s := S2048x128) ![1664, 0] S128x128.size inb_S2048x128_S128x128_1664_0,
            k0_pay20
              (View.readAt (Elt F) m.view
                (Rect.unit (s := S1x1x2048) ![0, 0, 1664] S1x1x128.size inb_S1x1x2048_S1x1x128_0_0_1664).toLoadRect (h.unread x1))⟩,
          ⟨Rect.unit (s := S2048x128) ![1536, 0] S128x128.size inb_S2048x128_S128x128_1536_0,
            k0_pay19
              (k0_pay18
                (View.readAt (Elt F) m.view
                  (Rect.unit (s := S1x1x2048) ![0, 0, 1536] S1x1x128.size inb_S1x1x2048_S1x1x128_0_0_1536).toLoadRect
                  (h.unread x1)))⟩,
          ⟨Rect.unit (s := S2048x128) ![1408, 0] S128x128.size inb_S2048x128_S128x128_1408_0,
            k0_pay17
              (View.readAt (Elt F) m.view
                (Rect.unit (s := S1x1x2048) ![0, 0, 1408] S1x1x128.size inb_S1x1x2048_S1x1x128_0_0_1408).toLoadRect (h.unread x1))⟩,
          ⟨Rect.unit (s := S2048x128) ![1280, 0] S128x128.size inb_S2048x128_S128x128_1280_0,
            k0_pay16
              (View.readAt (Elt F) m.view
                (Rect.unit (s := S1x1x2048) ![0, 0, 1280] S1x1x128.size inb_S1x1x2048_S1x1x128_0_0_1280).toLoadRect (h.unread x1))⟩,
          ⟨Rect.unit (s := S2048x128) ![1152, 0] S128x128.size inb_S2048x128_S128x128_1152_0,
            k0_pay15
              (View.readAt (Elt F) m.view
                (Rect.unit (s := S1x1x2048) ![0, 0, 1152] S1x1x128.size inb_S1x1x2048_S1x1x128_0_0_1152).toLoadRect (h.unread x1))⟩,
          ⟨Rect.unit (s := S2048x128) ![1024, 0] S128x128.size inb_S2048x128_S128x128_1024_0,
            k0_pay14
              (k0_pay13
                (View.readAt (Elt F) m.view
                  (Rect.unit (s := S1x1x2048) ![0, 0, 1024] S1x1x128.size inb_S1x1x2048_S1x1x128_0_0_1024).toLoadRect
                  (h.unread x1)))⟩,
          ⟨Rect.unit (s := S2048x128) ![896, 0] S128x128.size inb_S2048x128_S128x128_896_0,
            k0_pay12
              (View.readAt (Elt F) m.view
                (Rect.unit (s := S1x1x2048) ![0, 0, 896] S1x1x128.size inb_S1x1x2048_S1x1x128_0_0_896).toLoadRect (h.unread x1))⟩,
          ⟨Rect.unit (s := S2048x128) ![768, 0] S128x128.size inb_S2048x128_S128x128_768_0,
            k0_pay11
              (View.readAt (Elt F) m.view
                (Rect.unit (s := S1x1x2048) ![0, 0, 768] S1x1x128.size inb_S1x1x2048_S1x1x128_0_0_768).toLoadRect (h.unread x1))⟩,
          ⟨Rect.unit (s := S2048x128) ![640, 0] S128x128.size inb_S2048x128_S128x128_640_0,
            k0_pay10
              (View.readAt (Elt F) m.view
                (Rect.unit (s := S1x1x2048) ![0, 0, 640] S1x1x128.size inb_S1x1x2048_S1x1x128_0_0_640).toLoadRect (h.unread x1))⟩,
          ⟨Rect.unit (s := S2048x128) ![512, 0] S128x128.size inb_S2048x128_S128x128_512_0,
            k0_pay9
              (View.readAt (Elt F) m.view
                (Rect.unit (s := S1x1x2048) ![0, 0, 512] S1x1x128.size inb_S1x1x2048_S1x1x128_0_0_512).toLoadRect (h.unread x1))⟩,
          ⟨Rect.unit (s := S2048x128) ![384, 0] S128x128.size inb_S2048x128_S128x128_384_0,
            k0_pay8
              (View.readAt (Elt F) m.view
                (Rect.unit (s := S1x1x2048) ![0, 0, 384] S1x1x128.size inb_S1x1x2048_S1x1x128_0_0_384).toLoadRect (h.unread x1))⟩,
          ⟨Rect.unit (s := S2048x128) ![256, 0] S128x128.size inb_S2048x128_S128x128_256_0,
            k0_pay7
              (View.readAt (Elt F) m.view
                (Rect.unit (s := S1x1x2048) ![0, 0, 256] S1x1x128.size inb_S1x1x2048_S1x1x128_0_0_256).toLoadRect (h.unread x1))⟩,
          ⟨Rect.unit (s := S2048x128) ![128, 0] S128x128.size inb_S2048x128_S128x128_128_0,
            k0_pay6
              (View.readAt (Elt F) m.view
                (Rect.unit (s := S1x1x2048) ![0, 0, 128] S1x1x128.size inb_S1x1x2048_S1x1x128_0_0_128).toLoadRect (h.unread x1))⟩,
          ⟨Rect.unit (s := S2048x128) ![0, 0] S128x128.size inb_S2048x128_S128x128_0_0,
            k0_pay5
              (View.readAt (Elt F) m.view
                (Rect.unit (s := S1x1x2048) ![0, 0, 0] S1x1x128.size inb_S1x1x2048_S1x1x128_0_0_0).toLoadRect (h.unread x1))⟩] : List (View.Piece (Elt F) S2048x128 .f32)) = chunks x1 := by
  simp only [View.readAt_eq_ld, h.read_unread]
  rfl

/-- The scratch after the sixteen stores, read whole. -/
theorem read_chunks {κ : Kind} {sp : Space} (v : View sig κ sp S2048x128 .f32) (f : v.ty.Contents (Elt F)) (x1 : Vec F S1x1x2048 .f32) :
    v.read (Elt F) (v.writes (Elt F) f (chunks x1)) = colOf x1 :=
  (View.read_writes_eq_canon v f _ (chunks_cover x1)).trans (canon_chunks x1)

/-- The scratch after the sixteen stores, read through a box. -/
theorem readCov_chunks {κ : Kind} {sp : Space} (v : View sig κ sp S2048x128 .f32) (x1 : Vec F S1x1x2048 .f32) (r : Rect S2048x128) :
    v.readCov (chunks x1) r.toLoadRect = View.ld (colOf x1) r :=
  (View.readCov_eq_canon_ld v _ r (chunks_cover x1)).trans (congrArg (fun X => View.ld X r) (canon_chunks x1))

end Cert.KernelIdeal.Val

end
-- ==== Proof.RunA.lean ====
/-
  The grid point that opens the first row block.
-/
module

public import proofs.«01_k».proof.Proof.Scratch

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- (the triple's proof term is large: checking it walks past the default budget)
set_option maxHeartbeats 4000000 in
/-- The first point of the first row block: as at a later row block, except that the gradient of `lora_b` starts here. -/
theorem runA (c : Dev nD) (i : grid0.Coords) (arg2 : Memref sig .tc .vmem S2048x1024 .fp8e5m2) (harg2 : arg2.IsWhole) (arg3 : Memref sig .tc .vmem S1x1x2048 .f32) (harg3 : arg3.IsWhole) (arg4 : Memref sig .tc .vmem S2048x16 .fp8e4m3) (harg4 : arg4.IsWhole) (arg5 : Memref sig .tc .vmem S1x1x2048 .f32) (harg5 : arg5.IsWhole) (arg6 : Memref sig .tc .vmem S8192x1024 .fp8e4m3) (harg6 : arg6.IsWhole) (arg7 : Memref sig .tc .vmem S1x8192 .f32) (harg7 : arg7.IsWhole) (arg8 : Memref sig .tc .vmem S16x8192 .bf16) (harg8 : arg8.IsWhole) (arg9 : Memref sig .tc .vmem S16x1024 .bf16) (harg9 : arg9.IsWhole) (arg10 : Memref sig .tc .vmem S2048x1024 .bf16) (harg10 : arg10.IsWhole) (arg11 : Memref sig .tc .vmem S16x1024 .f32) (harg11 : arg11.IsWhole) (arg12 : Memref sig .tc .vmem S2048x16 .bf16) (harg12 : arg12.IsWhole) (arg13 : Memref sig .tc .vmem S2048x128 .f32) (harg13 : arg13.IsWhole) (hc0 : cond0_0 i) (hc1 : cond0_1 i) (hc2 : ¬cond0_2 i)
    (x0 : Vec F S2048x1024 .fp8e5m2) (x1 : Vec F S1x1x2048 .f32) (x2 : Vec F S2048x16 .fp8e4m3) (x3 : Vec F S1x1x2048 .f32) (x4 : Vec F S8192x1024 .fp8e4m3) (x5 : Vec F S1x8192 .f32) (x6 : Vec F S16x8192 .bf16) (x7 : Vec F S16x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dxOf i x0 x4 x5 x6 (dhOf x0 x1 x7) (colOf x1)) ∗ owns (c : Thread nD τ) arg11 fullShare (partOf x0 x1 x2 x3) ∗ owns (c : Thread nD τ) arg12 fullShare (dhOf x0 x1 x7) ∗ owns (c : Thread nD τ) arg13 fullShare (colOf x1)) -∗ K ⟨⟩))
      ⊢ wp frame (wpE (defs₀ (F := F)) Variants.none c none) E (cc0_lora_bwd i arg2 harg2 arg3 harg3 arg4 harg4 arg5 harg5 arg6 harg6 arg7 harg7 arg8 harg8 arg9 harg9 arg10 harg10 arg11 harg11 arg12 harg12 arg13 harg13) K := by
  simp only [cc0_lora_bwd_eq_skeleton]; unfold cc0_lora_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [read_stored (S := S2048x1024) _ _ hz2, stores_eq_chunks arg3 harg3 x1]
    simp only [readCov_chunks, View.readAt_eq_ld, harg2.read_unread, harg3.read_unread, harg4.read_unread, harg5.read_unread, harg6.read_unread, harg7.read_unread, harg8.read_unread, harg9.read_unread]
    rw [View.readCov_unit_zero (S := S2048x16) _ hz2, View.ld_unit_zero (S := S2048x128) hz2, View.ld_unit_zero (S := S2048x1024) hz2, View.ld_unit_zero (S := S16x1024) hz2]
    rfl
  isplitl [H9]
  · iexists _; isplitr; swap; · iexact H9
    ipureintro
    sl_unfold_words
    rw [read_stored (S := S16x1024) _ _ hz2, stores_eq_chunks arg3 harg3 x1]
    simp only [readCov_chunks, View.readAt_eq_ld, harg2.read_unread, harg3.read_unread, harg4.read_unread, harg5.read_unread, harg6.read_unread, harg7.read_unread, harg8.read_unread, harg9.read_unread]
    rw [View.ld_unit_zero (S := S2048x128) hz2, View.ld_unit_zero (S := S2048x1024) hz2, View.ld_unit_zero (S := S1x1x2048) hz3, View.ld_unit_zero (S := S2048x16) hz2]
    rfl
  isplitl [H10]
  · iexists _; isplitr; swap; · iexact H10
    ipureintro
    sl_unfold_words
    rw [read_stored (S := S2048x16) _ _ hz2, stores_eq_chunks arg3 harg3 x1]
    simp only [readCov_chunks, View.readAt_eq_ld, harg2.read_unread, harg3.read_unread, harg4.read_unread, harg5.read_unread, harg6.read_unread, harg7.read_unread, harg8.read_unread, harg9.read_unread]
    rw [View.ld_unit_zero (S := S2048x128) hz2, View.ld_unit_zero (S := S2048x1024) hz2, View.ld_unit_zero (S := S16x1024) hz2]
    rfl
  iexists _; isplitr; swap; · iexact HS0
  ipureintro
  sl_unfold_words
  rw [stores_eq_chunks arg3 harg3 x1]
  exact read_chunks _ _ x1

end Cert.KernelIdeal.Val

end
-- ==== Proof.RunB.lean ====
/-
  The body at a grid point that is not the first of its row block: it reads the scratch and `dh` and stores `dx`.
-/
module

public import proofs.«01_k».proof.Proof.Closed
public import Idealize.ShloMosaic.Lib.Exec

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- (the triple's proof term is large: checking it walks past the default budget)
set_option maxHeartbeats 4000000 in
/-- At a point that is not the first of its row block the body finds the scratch at `s` and `dh` at `d`, stores the `dx` block they
    give, and leaves every other buffer as it found it. -/
theorem runB (c : Dev nD) (i : grid0.Coords) (arg2 : Memref sig .tc .vmem S2048x1024 .fp8e5m2) (harg2 : arg2.IsWhole) (arg3 : Memref sig .tc .vmem S1x1x2048 .f32) (harg3 : arg3.IsWhole) (arg4 : Memref sig .tc .vmem S2048x16 .fp8e4m3) (harg4 : arg4.IsWhole) (arg5 : Memref sig .tc .vmem S1x1x2048 .f32) (harg5 : arg5.IsWhole) (arg6 : Memref sig .tc .vmem S8192x1024 .fp8e4m3) (harg6 : arg6.IsWhole) (arg7 : Memref sig .tc .vmem S1x8192 .f32) (harg7 : arg7.IsWhole) (arg8 : Memref sig .tc .vmem S16x8192 .bf16) (harg8 : arg8.IsWhole) (arg9 : Memref sig .tc .vmem S16x1024 .bf16) (harg9 : arg9.IsWhole) (arg10 : Memref sig .tc .vmem S2048x1024 .bf16) (harg10 : arg10.IsWhole) (arg11 : Memref sig .tc .vmem S16x1024 .f32) (harg11 : arg11.IsWhole) (arg12 : Memref sig .tc .vmem S2048x16 .bf16) (harg12 : arg12.IsWhole) (arg13 : Memref sig .tc .vmem S2048x128 .f32) (harg13 : arg13.IsWhole) (hc0 : ¬cond0_0 i)
    (x0 : Vec F S2048x1024 .fp8e5m2) (x1 : Vec F S1x1x2048 .f32) (x2 : Vec F S2048x16 .fp8e4m3) (x3 : Vec F S1x1x2048 .f32) (x4 : Vec F S8192x1024 .fp8e4m3) (x5 : Vec F S1x8192 .f32) (x6 : Vec F S16x8192 .bf16) (x7 : Vec F S16x1024 .bf16) (x9 : Vec F S16x1024 .f32) (d : Vec F S2048x16 .bf16) (s : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare d ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dxOf i x0 x4 x5 x6 d s) ∗ owns (c : Thread nD τ) arg11 fullShare x9 ∗ owns (c : Thread nD τ) arg12 fullShare d ∗ owns (c : Thread nD τ) arg13 fullShare s) -∗ K ⟨⟩))
      ⊢ wp frame (wpE (defs₀ (F := F)) Variants.none c none) E (cc0_lora_bwd i arg2 harg2 arg3 harg3 arg4 harg4 arg5 harg5 arg6 harg6 arg7 harg7 arg8 harg8 arg9 harg9 arg10 harg10 arg11 harg11 arg12 harg12 arg13 harg13) K := by
  simp only [cc0_lora_bwd_eq_skeleton]; unfold cc0_lora_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [read_stored (S := S2048x1024) _ _ hz2]
    unfold dxOf
    simp only [View.readAt_eq_ld, harg2.read_unread, harg6.read_unread, harg7.read_unread, harg8.read_unread, harg12.read_unread, harg13.read_unread]
    rw [View.ld_unit_zero (S := S2048x1024) hz2, View.ld_unit_zero (S := S2048x16) hz2]
    rfl
  isplitl [H9]
  · iexists _; isplitr; · ipureintro; exact harg11.read_unread _
    iexact H9
  isplitl [H10]
  · iexists _; isplitr; · ipureintro; exact harg12.read_unread _
    iexact H10
  iexists _; isplitr; · ipureintro; exact harg13.read_unread _
  iexact HS0

end Cert.KernelIdeal.Val

end
-- ==== Proof.RunC.lean ====
/-
  The grid points that open a row block after the first.
-/
module

public import proofs.«01_k».proof.Proof.Scratch

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- (the triple's proof term is large: checking it walks past the default budget)
set_option maxHeartbeats 4000000 in
/-- A point that opens a later row block: it fills the scratch, computes the row block's `dh`, adds its part to the gradient of
`lora_b`, and writes its `dx` block. -/
theorem runC (c : Dev nD) (i : grid0.Coords) (arg2 : Memref sig .tc .vmem S2048x1024 .fp8e5m2) (harg2 : arg2.IsWhole) (arg3 : Memref sig .tc .vmem S1x1x2048 .f32) (harg3 : arg3.IsWhole) (arg4 : Memref sig .tc .vmem S2048x16 .fp8e4m3) (harg4 : arg4.IsWhole) (arg5 : Memref sig .tc .vmem S1x1x2048 .f32) (harg5 : arg5.IsWhole) (arg6 : Memref sig .tc .vmem S8192x1024 .fp8e4m3) (harg6 : arg6.IsWhole) (arg7 : Memref sig .tc .vmem S1x8192 .f32) (harg7 : arg7.IsWhole) (arg8 : Memref sig .tc .vmem S16x8192 .bf16) (harg8 : arg8.IsWhole) (arg9 : Memref sig .tc .vmem S16x1024 .bf16) (harg9 : arg9.IsWhole) (arg10 : Memref sig .tc .vmem S2048x1024 .bf16) (harg10 : arg10.IsWhole) (arg11 : Memref sig .tc .vmem S16x1024 .f32) (harg11 : arg11.IsWhole) (arg12 : Memref sig .tc .vmem S2048x16 .bf16) (harg12 : arg12.IsWhole) (arg13 : Memref sig .tc .vmem S2048x128 .f32) (harg13 : arg13.IsWhole) (hc0 : cond0_0 i) (hc1 : ¬cond0_1 i) (hc2 : cond0_2 i)
    (x0 : Vec F S2048x1024 .fp8e5m2) (x1 : Vec F S1x1x2048 .f32) (x2 : Vec F S2048x16 .fp8e4m3) (x3 : Vec F S1x1x2048 .f32) (x4 : Vec F S8192x1024 .fp8e4m3) (x5 : Vec F S1x8192 .f32) (x6 : Vec F S16x8192 .bf16) (x7 : Vec F S16x1024 .bf16) (x9 : Vec F S16x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dxOf i x0 x4 x5 x6 (dhOf x0 x1 x7) (colOf x1)) ∗ owns (c : Thread nD τ) arg11 fullShare (k0_pay3 (colOf x1) (k0_pay23 x0) x3 x2 x9) ∗ owns (c : Thread nD τ) arg12 fullShare (dhOf x0 x1 x7) ∗ owns (c : Thread nD τ) arg13 fullShare (colOf x1)) -∗ K ⟨⟩))
      ⊢ wp frame (wpE (defs₀ (F := F)) Variants.none c none) E (cc0_lora_bwd i arg2 harg2 arg3 harg3 arg4 harg4 arg5 harg5 arg6 harg6 arg7 harg7 arg8 harg8 arg9 harg9 arg10 harg10 arg11 harg11 arg12 harg12 arg13 harg13) K := by
  simp only [cc0_lora_bwd_eq_skeleton]; unfold cc0_lora_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [read_stored (S := S2048x1024) _ _ hz2, stores_eq_chunks arg3 harg3 x1]
    simp only [readCov_chunks, View.readAt_eq_ld, harg2.read_unread, harg3.read_unread, harg4.read_unread, harg5.read_unread, harg6.read_unread, harg7.read_unread, harg8.read_unread, harg9.read_unread, harg11.read_unread]
    rw [View.readCov_unit_zero (S := S2048x16) _ hz2, View.ld_unit_zero (S := S2048x128) hz2, View.ld_unit_zero (S := S2048x1024) hz2, View.ld_unit_zero (S := S16x1024) hz2]
    rfl
  isplitl [H9]
  · iexists _; isplitr; swap; · iexact H9
    ipureintro
    sl_unfold_words
    rw [read_stored (S := S16x1024) _ _ hz2, stores_eq_chunks arg3 harg3 x1]
    simp only [readCov_chunks, View.readAt_eq_ld, harg2.read_unread, harg3.read_unread, harg4.read_unread, harg5.read_unread, harg6.read_unread, harg7.read_unread, harg8.read_unread, harg9.read_unread, harg11.read_unread]
    rw [View.ld_unit_zero (S := S2048x128) hz2, View.ld_unit_zero (S := S2048x1024) hz2, View.ld_unit_zero (S := S1x1x2048) hz3, View.ld_unit_zero (S := S2048x16) hz2, View.ld_unit_zero (S := S16x1024) hz2]

  isplitl [H10]
  · iexists _; isplitr; swap; · iexact H10
    ipureintro
    sl_unfold_words
    rw [read_stored (S := S2048x16) _ _ hz2, stores_eq_chunks arg3 harg3 x1]
    simp only [readCov_chunks, View.readAt_eq_ld, harg2.read_unread, harg3.read_unread, harg4.read_unread, harg5.read_unread, harg6.read_unread, harg7.read_unread, harg8.read_unread, harg9.read_unread, harg11.read_unread]
    rw [View.ld_unit_zero (S := S2048x128) hz2, View.ld_unit_zero (S := S2048x1024) hz2, View.ld_unit_zero (S := S16x1024) hz2]
    rfl
  iexists _; isplitr; swap; · iexact HS0
  ipureintro
  sl_unfold_words
  rw [stores_eq_chunks arg3 harg3 x1]
  exact read_chunks _ _ x1

end Cert.KernelIdeal.Val

end
-- ==== Proof.Body.lean ====
/-
  The body of the kernel at a generic grid point: from what the buffers hold before it to what they hold after it.
-/
module

public import proofs.«01_k».proof.Proof.Data
public import proofs.«01_k».proof.Proof.RunA
public import proofs.«01_k».proof.Proof.RunB
public import proofs.«01_k».proof.Proof.RunC

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging buffer at point `t`, and that it is a whole buffer. -/
abbrev ms0_0 (t : Fin cfg0.N) : Memref sig .tc .vmem S2048x1024 .fp8e5m2 := win0_0.stage (cfg0.slots t 0)
/-- It is a whole buffer. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .vmem S1x1x2048 .f32 := win0_1.stage (cfg0.slots t 1)
/-- It is a whole buffer. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S2048x16 .fp8e4m3 := win0_2.stage (cfg0.slots t 2)
/-- It is a whole buffer. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S1x1x2048 .f32 := win0_3.stage (cfg0.slots t 3)
/-- It is a whole buffer. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S8192x1024 .fp8e4m3 := win0_4.stage (cfg0.slots t 4)
/-- It is a whole buffer. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S1x8192 .f32 := win0_5.stage (cfg0.slots t 5)
/-- It is a whole buffer. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S16x8192 .bf16 := win0_6.stage (cfg0.slots t 6)
/-- It is a whole buffer. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S16x1024 .bf16 := win0_7.stage (cfg0.slots t 7)
/-- It is a whole buffer. -/
abbrev hs0_7 (t : Fin cfg0.N) : (ms0_7 t).IsWhole := hstage0_7 ((cfg0.slots t 7).cast nbuf0_7)
/-- The staging buffer of window 8 at a point. -/
abbrev ms0_8 (t : Fin cfg0.N) : Memref sig .tc .vmem S2048x1024 .bf16 := win0_8.stage (cfg0.slots t 8)
/-- It is a whole buffer. -/
abbrev hs0_8 (t : Fin cfg0.N) : (ms0_8 t).IsWhole := hstage0_8 ((cfg0.slots t 8).cast nbuf0_8)
/-- The staging buffer of window 9 at a point. -/
abbrev ms0_9 (t : Fin cfg0.N) : Memref sig .tc .vmem S16x1024 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at a point. -/
abbrev ms0_10 (t : Fin cfg0.N) : Memref sig .tc .vmem S2048x16 .bf16 := win0_10.stage (cfg0.slots t 10)
/-- It is a whole buffer. -/
abbrev hs0_10 (t : Fin cfg0.N) : (ms0_10 t).IsWhole := hstage0_10 ((cfg0.slots t 10).cast nbuf0_10)

/-- The scratch at anything, and the generator register at anything: what the launch hands over and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- At any point the scratch may be taken at anything. -/
theorem Phi_weak (c : Dev nD) (n : ℕ) : Phi m c n ⊢ Pipeline.ΦA spec0 c := by
  cases n with
  | zero => exact .rfl
  | succ n =>
    rw [PhiA0_eq]; unfold Phi
    iintro ⟨H, Hg⟩
    isplitl [H]
    · iexists _; iexact H
    iexact Hg

/-- After a point, the scratch holds the column of the point's row block. -/
theorem Phi_succ (c : Dev nD) (t : Fin cfg0.N) : (dats m 0 c).Φ t.succ
    = iprop(owns (c : Thread nD τ) scM0_0 fullShare (colAt m c (head t.val)) ∗ (∃ r, prngReg c r)) := rfl
/-- Within a row block, the scratch already holds the row block's column. -/
theorem Phi_castSucc (c : Dev nD) (t : Fin cfg0.N) (h : t.val % 8 ≠ 0) : (dats m 0 c).Φ t.castSucc
    = iprop(owns (c : Thread nD τ) scM0_0 fullShare (colAt m c (head t.val)) ∗ (∃ r, prngReg c r)) := by
  rw [← head_pred t h]
  show Phi m c t.val = _
  obtain ⟨n, hn⟩ := t
  cases n with
  | zero => exact absurd rfl h
  | succ n => rfl

/-- What the body must leave of window 0: its block, unchanged. -/
theorem leaves_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (cfg0.grid.coords t) = false from rfl], after0_0]
/-- What the body must leave of window 1: its block, unchanged. -/
theorem leaves_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (cfg0.grid.coords t) = false from rfl], after0_1]
/-- What the body must leave of window 2: its block, unchanged. -/
theorem leaves_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (cfg0.grid.coords t) = false from rfl], after0_2]
/-- What the body must leave of window 3: its block, unchanged. -/
theorem leaves_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [show cfg0.idle 3 (cfg0.grid.coords t) = false from rfl], after0_3]
/-- What the body must leave of window 4: its block, unchanged. -/
theorem leaves_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [show cfg0.idle 4 (cfg0.grid.coords t) = false from rfl], after0_4]
/-- What the body must leave of window 5: its block, unchanged. -/
theorem leaves_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [show cfg0.idle 5 (cfg0.grid.coords t) = false from rfl], after0_5]
/-- What the body must leave of window 6: its block, unchanged. -/
theorem leaves_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [show cfg0.idle 6 (cfg0.grid.coords t) = false from rfl], after0_6]
/-- What the body must leave of window 7: its block, unchanged. -/
theorem leaves_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [show cfg0.idle 7 (cfg0.grid.coords t) = false from rfl], after0_7]

/-- The `dx` block is stored at every point. -/
theorem leaves_8 (c : Dev nD) (t : Fin cfg0.N) : (dats m 0 c).leavesExact 8 t = owns (c : Thread nD τ) (ms0_8 t) fullShare (dxAt m c t) := by
  rw [show (dats m 0 c).leavesExact 8 t = owns (c : Thread nD τ) (ms0_8 t) fullShare ((dats m 0 c).after 8 t) from by
    unfold Dat.leavesExact; rw [show cfg0.idle 8 (cfg0.grid.coords t) = false from rfl], after0_8]
/-- The gradient of `lora_b` at a point that stores it. -/
theorem leaves_9 (c : Dev nD) (t : Fin cfg0.N) (h : t.val % 8 = 0) :
    (dats m 0 c).leavesExact 9 t = owns (c : Thread nD τ) (ms0_9 t) fullShare (dbAt m c t.val t.isLt) := by
  rw [show (dats m 0 c).leavesExact 9 t = owns (c : Thread nD τ) (ms0_9 t) fullShare ((dats m 0 c).after 9 t) from by
    unfold Dat.leavesExact
    rw [show cfg0.idle 9 (cfg0.grid.coords t) = false from (idle_9 t).trans (by simp [h])], after0_9]
/-- `dh` at a point that stores it. -/
theorem leaves_10 (c : Dev nD) (t : Fin cfg0.N) (h : t.val % 8 = 0) :
    (dats m 0 c).leavesExact 10 t = owns (c : Thread nD τ) (ms0_10 t) fullShare (dhAt m c (head t.val)) := by
  rw [show (dats m 0 c).leavesExact 10 t = owns (c : Thread nD τ) (ms0_10 t) fullShare ((dats m 0 c).after 10 t) from by
    unfold Dat.leavesExact
    rw [show cfg0.idle 10 (cfg0.grid.coords t) = false from (idle_10 t).trans (by simp [h])], after0_10]
/-- The gradient of `lora_b` at a point that leaves it alone. -/
theorem keeps_9 (c : Dev nD) (t : Fin cfg0.N) (h : t.val % 8 ≠ 0) :
    owns (c : Thread nD τ) (ms0_9 t) fullShare (dbAt m c (t.val - 1) (by omega)) ⊢ (dats m 0 c).leavesExact 9 t := by
  have hi : cfg0.idle 9 (cfg0.grid.coords t) = true := (idle_9 t).trans (by simp [h])
  cases hf : (cfg0.win 9).flush t
  · rw [(dats m 0 c).leavesExact_idle 9 t hi hf]
    simp only [before0_9 m c t (by omega)]
    iintro H; iexists (dbAt m c (t.val - 1) (by omega)); iexact H
  · rw [show (dats m 0 c).leavesExact 9 t = owns (c : Thread nD τ) (ms0_9 t) fullShare ((dats m 0 c).after 9 t) from by
      unfold Dat.leavesExact; rw [hi, hf], after0_9, dbAt_idle m c t h]
/-- `dh` at a point that leaves it alone. -/
theorem keeps_10 (c : Dev nD) (t : Fin cfg0.N) (h : t.val % 8 ≠ 0) :
    owns (c : Thread nD τ) (ms0_10 t) fullShare (dhAt m c (head t.val)) ⊢ (dats m 0 c).leavesExact 10 t := by
  have hi : cfg0.idle 10 (cfg0.grid.coords t) = true := (idle_10 t).trans (by simp [h])
  cases hf : (cfg0.win 10).flush t
  · rw [(dats m 0 c).leavesExact_idle 10 t hi hf]
    simp only [before0_10 m c t h]
    iintro H; iexists (dhAt m c (head t.val)); iexact H
  · rw [show (dats m 0 c).leavesExact 10 t = owns (c : Thread nD τ) (ms0_10 t) fullShare ((dats m 0 c).after 10 t) from by
      unfold Dat.leavesExact; rw [hi, hf], after0_10]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 3600000 in
/-- The body at any point: the first of a row block runs all of it, the others the last part alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, leaves_0, leaves_1, leaves_2, leaves_3, leaves_4, leaves_5, leaves_6, leaves_7, leaves_8]
  rw [show (dats m 0 c).owesAt () t.succ = (dats m 0 c).owesAt () t.castSucc from rfl, Phi_succ]
  by_cases h0 : t.val % 8 = 0
  · rw [leaves_9 m c t h0, leaves_10 m c t h0]
    have hΦ : (dats m 0 c).Φ t.castSucc ⊢ Pipeline.ΦA spec0 c := Phi_weak m c t.val
    rw [PhiA0_eq] at hΦ
    refine (BIBase.Entails.trans (sep_mono_left hΦ) ?_)
    unfold dxAt
    rw [head_self t h0]
    by_cases hz : t.val = 0
    · rw [dbAt_zero m c t hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond0_iff t).mpr h0) ((cond1_iff t).mpr (by omega)) (fun h => by have := (cond2_iff t).mp h; omega) (iblk m c 0 t) (iblk m c 1 t) (iblk m c 2 t) (iblk m c 3 t) (iblk m c 4 t) (iblk m c 5 t) (iblk m c 6 t) (iblk m c 7 t)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS]; · iexact HS
      iintro ⟨H0, H1, H2, H3, H4, H5, H6, H7, H8, H9, H10, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [dbAt_open m c t hz h0]
      simp only [before0_9 m c t hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((cond0_iff t).mpr h0) (fun h => by have := (cond1_iff t).mp h; omega) ((cond2_iff t).mpr (by omega)) (iblk m c 0 t) (iblk m c 1 t) (iblk m c 2 t) (iblk m c 3 t) (iblk m c 4 t) (iblk m c 5 t) (iblk m c 6 t) (iblk m c 7 t) (dbAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [HS]; · iexact HS
      iintro ⟨H0, H1, H2, H3, H4, H5, H6, H7, H8, H9, H10, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · rw [Phi_castSucc m c t h0]
    simp only [before0_9 m c t (by omega), before0_10 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((cond0_iff t).mp h)) (iblk m c 0 t) (iblk m c 1 t) (iblk m c 2 t) (iblk m c 3 t) (iblk m c 4 t) (iblk m c 5 t) (iblk m c 6 t) (iblk m c 7 t) (dbAt m c (t.val - 1) (by omega)) (dhAt m c (head t.val)) (colAt m c (head t.val)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (keeps_9 m c t h0); iexact H9
    iapply (keeps_10 m c t h0); iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Val

end
-- ==== Proof.Run.lean ====
/-
  The run of the whole program: it terminates, with the arrays of the pipeline at the blocks its points wrote and the
  arguments unchanged.
-/
module

public import proofs.«01_k».proof.Proof.Body
public import Idealize.ShloMosaic.Lib.Pipeline.FrameSuffix
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe
open Idealize.SL Idealize.SL.RA Idealize.SL.BI Idealize.SL.Sem
open Idealize.ShloMosaic.Pipeline (Dat)

variable {F : FTy → Type} [FloatOps F]

variable (m : (ℓ : Loc nD τ sig) → Buf (Elt F) ℓ) (ρ : Dev nD → PrngReg)

set_option backward.isDefEq.respectTransparency.types false in
set_option maxHeartbeats 800000 in
/-- Every execution terminates with the pipeline's arrays at the blocks written back, every other buffer as the host
lines leave it, and every semaphore at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := fun c => Phi_weak m c cfg0.N)
    (hQ' := fun _ h => h)

/-- The arguments end unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The host lines after the region leave `dx`'s result buffer at the pipeline's `dx` array, reshaped. -/
theorem tail_v7 (c : Dev nD) : Pipeline.afterTail₀ cfgs (dats m) 0 (V0 m) [hostOps1] c main_v7
    = shapeCast S6x4096x8192 ((dats m 0 c).arrAt 8 cfg0.N) shapeCasts_S24576x8192_S6x4096x8192 := by
  unfold Pipeline.afterTail₀
  simp (disch := decide) only [hostOps1, List.flatten_cons, List.flatten_nil, List.append_nil, StableHlo.after_cons,
    StableHlo.after_nil, StableHlo.reshape_result_ne', StableHlo.reshape_result']
  exact congrArg (shapeCast S6x4096x8192 · shapeCasts_S24576x8192_S6x4096x8192)
    (Pipeline.withArrays_arr spec0 winFacts0.arr_inj c (V0 m c) (fun w => (dats m 0 c).arrAt w cfg0.N) 8)

/-- The host lines after the region leave `dh`'s result buffer at the pipeline's `dh` array, reshaped. -/
theorem tail_v8 (c : Dev nD) : Pipeline.afterTail₀ cfgs (dats m) 0 (V0 m) [hostOps1] c main_v8
    = shapeCast S6x4096x16 ((dats m 0 c).arrAt 10 cfg0.N) shapeCasts_S24576x16_S6x4096x16 := by
  unfold Pipeline.afterTail₀
  simp (disch := decide) only [hostOps1, List.flatten_cons, List.flatten_nil, List.append_nil, StableHlo.after_cons,
    StableHlo.after_nil, StableHlo.reshape_result_ne', StableHlo.reshape_result']
  exact congrArg (shapeCast S6x4096x16 · shapeCasts_S24576x16_S6x4096x16)
    (Pipeline.withArrays_arr spec0 winFacts0.arr_inj c (V0 m c) (fun w => (dats m 0 c).arrAt w cfg0.N) 10)

/-! ## What the region finds in the arrays the host lines prepare -/

/-- The kernel is handed `dy` with its rows flattened. -/
theorem V_main_v0 (c : Dev nD) : V m c main_v0 = shapeCast S24576x1024 (m ((c : Thread nD τ).loc main_arg0)) shapeCasts_S6x4096x1024_S24576x1024 := by
  show StableHlo.after (List.flatten [hostOps0]) (fun b => m (c, b)) (Proc.devRef .tc main_v0) = _
  simp (disch := decide) only [hostOps0, List.flatten_cons, List.flatten_nil, List.append_nil, StableHlo.after_cons,
    StableHlo.after_nil, StableHlo.reshape_result_ne', StableHlo.reshape_result', StableHlo.unary_result_ne', StableHlo.unary_result']
  rfl
/-- The kernel is handed the scales of `dy` cut into row blocks. -/
theorem V_main_v1 (c : Dev nD) : V m c main_v1 = shapeCast S12x1x2048 (m ((c : Thread nD τ).loc main_arg1)) shapeCasts_S6x4096_S12x1x2048 := by
  show StableHlo.after (List.flatten [hostOps0]) (fun b => m (c, b)) (Proc.devRef .tc main_v1) = _
  simp (disch := decide) only [hostOps0, List.flatten_cons, List.flatten_nil, List.append_nil, StableHlo.after_cons,
    StableHlo.after_nil, StableHlo.reshape_result_ne', StableHlo.reshape_result', StableHlo.unary_result_ne', StableHlo.unary_result']
  rfl
/-- The kernel is handed `z` with its rows flattened. -/
theorem V_main_v2 (c : Dev nD) : V m c main_v2 = shapeCast S24576x16 (m ((c : Thread nD τ).loc main_arg2)) shapeCasts_S6x4096x16_S24576x16 := by
  show StableHlo.after (List.flatten [hostOps0]) (fun b => m (c, b)) (Proc.devRef .tc main_v2) = _
  simp (disch := decide) only [hostOps0, List.flatten_cons, List.flatten_nil, List.append_nil, StableHlo.after_cons,
    StableHlo.after_nil, StableHlo.reshape_result_ne', StableHlo.reshape_result', StableHlo.unary_result_ne', StableHlo.unary_result']
  rfl
/-- The kernel is handed the scales of `z` cut into row blocks. -/
theorem V_main_v3 (c : Dev nD) : V m c main_v3 = shapeCast S12x1x2048 (m ((c : Thread nD τ).loc main_arg3)) shapeCasts_S6x4096_S12x1x2048 := by
  show StableHlo.after (List.flatten [hostOps0]) (fun b => m (c, b)) (Proc.devRef .tc main_v3) = _
  simp (disch := decide) only [hostOps0, List.flatten_cons, List.flatten_nil, List.append_nil, StableHlo.after_cons,
    StableHlo.after_nil, StableHlo.reshape_result_ne', StableHlo.reshape_result', StableHlo.unary_result_ne', StableHlo.unary_result']
  rfl
/-- The kernel is handed the weights' scales as one row. -/
theorem V_main_v4 (c : Dev nD) : V m c main_v4 = shapeCast S1x8192 (m ((c : Thread nD τ).loc main_arg5)) shapeCasts_S8192_S1x8192 := by
  show StableHlo.after (List.flatten [hostOps0]) (fun b => m (c, b)) (Proc.devRef .tc main_v4) = _
  simp (disch := decide) only [hostOps0, List.flatten_cons, List.flatten_nil, List.append_nil, StableHlo.after_cons,
    StableHlo.after_nil, StableHlo.reshape_result_ne', StableHlo.reshape_result', StableHlo.unary_result_ne', StableHlo.unary_result']
  rfl
/-- The kernel is handed `lora_a` transposed. -/
theorem V_main_v5 (c : Dev nD) : V m c main_v5
    = transpose S16x8192 [1, 0] (m ((c : Thread nD τ).loc main_arg6)) transposes_S8192x16_S16x8192_1_0 := by
  show StableHlo.after (List.flatten [hostOps0]) (fun b => m (c, b)) (Proc.devRef .tc main_v5) = _
  simp (disch := decide) only [hostOps0, List.flatten_cons, List.flatten_nil, List.append_nil, StableHlo.after_cons,
    StableHlo.after_nil, StableHlo.reshape_result_ne', StableHlo.reshape_result', StableHlo.unary_result_ne', StableHlo.unary_result']

/-- The run with the three results: `dx` and `dh` are their arrays reshaped, the gradient of `lora_b` its array. -/
theorem run_values : θ_run defs (onTc (τ := τ) (main (F := F))) ⟨m, fun _ => 0, ρ⟩ (fun r => ∀ c : Dev nD,
      r.2.mem ((c.tc : Thread nD τ).loc main_v7)
        = shapeCast S6x4096x8192 ((dats m 0 c).arrAt 8 cfg0.N) shapeCasts_S24576x8192_S6x4096x8192
      ∧ r.2.mem ((c.tc : Thread nD τ).loc main_v6_1) = (dats m 0 c).arrAt 9 cfg0.N
      ∧ r.2.mem ((c.tc : Thread nD τ).loc main_v8)
        = shapeCast S6x4096x16 ((dats m 0 c).arrAt 10 cfg0.N) shapeCasts_S24576x16_S6x4096x16) :=
  (θ_run defs _ _).mono (fun _ h c =>
    ⟨((h.1 c).2 main_v7 (Pipeline.mem_restRefs_of main_v7 (by decide) (by decide))).trans (tail_v7 m c),
      (h.1 c).1 9,
      ((h.1 c).2 main_v8 (Pipeline.mem_restRefs_of main_v8 (by decide) (by decide))).trans (tail_v8 m c)⟩) (run_all m ρ)

end Cert.KernelIdeal.Val

end
-- ==== Proof.Same.lean ====
/-
  The kernel printed for the machine's own floats and the kernel printed for exact arithmetic are one program, so the
  run proved of the second at every interpretation of floats is also a run of the first.
-/
module

public import proofs.«01_k».proof.Proof.Run
public import proofs.«01_k».proof.Proof.Gen.Kernel

@[expose] public section

set_option maxRecDepth 65536

noncomputable section

namespace Cert.Same

open Idealize.ShloMosaic Idealize.SL.Sem
open Cert.Kernel.Gen Cert.KernelIdeal.Gen

variable {F : FTy → Type} [FloatOps F]

/-- The two programs' kernel bodies are one. -/
theorem defs₀_eq : Cert.Kernel.defs₀ (F := F) = Cert.KernelIdeal.defs₀ (F := F) := by
  unfold Cert.Kernel.defs₀ Cert.KernelIdeal.defs₀
  refine congrArg Defs.onTc ?_
  funext x y
  match x, y with
  | 0, (t, s) => rfl
  | ⟨_ + 1, h⟩, _ => exact absurd h (Nat.not_lt.2 (Nat.le_add_left _ _))

/-- The two programs' definitions are one. -/
theorem defs_eq : Cert.Kernel.defs (F := F) = Cert.KernelIdeal.defs (F := F) :=
  congrArg (Pipeline.defs (Cert.Kernel.pcfgs (F := F))) defs₀_eq

/-- The kernel runs, its arguments end unchanged and every semaphore ends at zero. -/
theorem quiescent (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [defs_eq]
  exact Cert.KernelIdeal.Val.quiescent m ρ

end Cert.Same

end
-- ==== Proof.Spec.lean ====
/-
  The three gradients in exact arithmetic, entry by entry, and the two facts about sums the comparison rests on: a
  sum over the rows may be cut into blocks of any size, and the factor two may be taken out of it.
-/
module

public import Idealize.ShloMosaic.Lib.ValueIdx
public import Idealize.ShloMosaic.PureOps.Ideal

@[expose] public section

noncomputable section

namespace Cert.Spec

open Idealize.ShloMosaic Idealize.ShloMosaic.ValueIdx

/-- Equal factors have equal products. -/
theorem mul_eq {a a' b b' : EReal} (ha : a = a') (hb : b = b') : a * b = a' * b' := by rw [ha, hb]
/-- Equal summands have equal sums. -/
theorem add_eq {a a' b b' : EReal} (ha : a = a') (hb : b = b') : a + b = a' + b' := by rw [ha, hb]

/-- The number both programs write as the word of `2.0`. -/
def two : EReal := Ideal.ofBits .f32 0x40000000#32

/-- The word of `2.0` is the number two. -/
theorem two_eq : two = ((2 : ℝ) : EReal) := by
  unfold two
  simp [Ideal.ofBits, Ideal.ieee, -EReal.coe_mul]; norm_num

/-- Two times a sum is the sum of the doubles, infinite terms included. -/
theorem two_add (a b : EReal) : two * (a + b) = two * a + two * b := by
  rw [two_eq]
  exact EReal.left_distrib_of_nonneg_of_ne_top (by exact_mod_cast (by norm_num : (0 : ℝ) ≤ 2)) (EReal.coe_ne_top _) a b

/-! ## Rows: row `n` of the flattened arrays is position `n % 4096` of sequence `n / 4096` -/

/-- The sequence that row `n` lies in. -/
def seqOf (n : ℕ) : Fin 6 := ⟨n / 4096 % 6, Nat.mod_lt _ (by decide)⟩
/-- The position of row `n` in its sequence. -/
def posOf (n : ℕ) : Fin 4096 := ⟨n % 4096, Nat.mod_lt _ (by decide)⟩

/-- A sum over `n` blocks of `k` consecutive numbers is the sum over all `n * k` numbers. -/
theorem sum_blocks (f : ℕ → EReal) (k n : ℕ) :
    ∑ i ∈ Finset.range n, ∑ p ∈ Finset.range k, f (k * i + p) = ∑ R ∈ Finset.range (k * n), f R := by
  induction n with
  | zero => simp
  | succ n ih => rw [Finset.sum_range_succ, ih, Nat.mul_succ, Finset.sum_range_add]

/-- A sum over all rows is the sum over the sequences and their positions. -/
theorem sum_rows (g : Fin 6 → Fin 4096 → EReal) :
    ∑ R ∈ Finset.range (2048 * 12), g (seqOf R) (posOf R) = ∑ b, ∑ t, g b t := by
  rw [show 2048 * 12 = 4096 * 6 by norm_num, ← sum_blocks (fun R => g (seqOf R) (posOf R)) 4096 6, Finset.sum_range]
  refine Finset.sum_congr rfl fun b _ => ?_
  rw [Finset.sum_range]
  refine Finset.sum_congr rfl fun t _ => ?_
  have hb := b.isLt; have ht := t.isLt
  congr 1
  · congr 1; apply Fin.ext; show (4096 * b.val + t.val) / 4096 % 6 = b.val; omega
  · apply Fin.ext; show (4096 * b.val + t.val) % 4096 = t.val; omega

/-! ## The gradients -/

/-- `dh`: the gradient of the rank-16 activations. -/
def dh (dy : (⟨3, ![6, 4096, 1024]⟩ : Shape).Idx → EReal) (s : (⟨2, ![6, 4096]⟩ : Shape).Idx → EReal)
    (lb : (⟨2, ![16, 1024]⟩ : Shape).Idx → EReal) (b : Fin 6) (t : Fin 4096) (r : Fin 16) : EReal :=
  (∑ o : Fin 1024, dy (ix3 b t o) * lb (ix2 r o)) * s (ix2 b t) * two

/-- What one row of the flattened arrays adds to the gradient of `lora_b`, before doubling. -/
def term (dy : (⟨3, ![6, 4096, 1024]⟩ : Shape).Idx → EReal) (s : (⟨2, ![6, 4096]⟩ : Shape).Idx → EReal)
    (z : (⟨3, ![6, 4096, 16]⟩ : Shape).Idx → EReal) (zs : (⟨2, ![6, 4096]⟩ : Shape).Idx → EReal)
    (r : Fin 16) (o : Fin 1024) (b : Fin 6) (t : Fin 4096) : EReal :=
  (z (ix3 b t r) * zs (ix2 b t)) * (dy (ix3 b t o) * s (ix2 b t))

/-- `db`: the gradient of `lora_b`. -/
def db (dy : (⟨3, ![6, 4096, 1024]⟩ : Shape).Idx → EReal) (s : (⟨2, ![6, 4096]⟩ : Shape).Idx → EReal)
    (z : (⟨3, ![6, 4096, 16]⟩ : Shape).Idx → EReal) (zs : (⟨2, ![6, 4096]⟩ : Shape).Idx → EReal)
    (r : Fin 16) (o : Fin 1024) : EReal :=
  two * ∑ b, ∑ t, term dy s z zs r o b t

/-- `dx`: the gradient of the input. -/
def dx (dy : (⟨3, ![6, 4096, 1024]⟩ : Shape).Idx → EReal) (s : (⟨2, ![6, 4096]⟩ : Shape).Idx → EReal)
    (w : (⟨2, ![8192, 1024]⟩ : Shape).Idx → EReal) (ws : (⟨1, ![8192]⟩ : Shape).Idx → EReal)
    (la : (⟨2, ![8192, 16]⟩ : Shape).Idx → EReal) (lb : (⟨2, ![16, 1024]⟩ : Shape).Idx → EReal)
    (b : Fin 6) (t : Fin 4096) (d : Fin 8192) : EReal :=
  (∑ o : Fin 1024, dy (ix3 b t o) * w (ix2 d o)) * s (ix2 b t) * ws (ix1 d)
    + ∑ r : Fin 16, dh dy s lb b t r * la (ix2 d r)

/-- Adding the doubled sums of the first `n` row blocks one after another gives the doubled sum over their rows. -/
theorem accum_rows (f : ℕ → EReal) (acc : ℕ → EReal) (h0 : acc 0 = two * ∑ p ∈ Finset.range 2048, f (2048 * 0 + p))
    (hs : ∀ i, i + 1 < 12 → acc (i + 1) = acc i + two * ∑ p ∈ Finset.range 2048, f (2048 * (i + 1) + p)) :
    ∀ i, i < 12 → acc i = two * ∑ R ∈ Finset.range (2048 * (i + 1)), f R := by
  intro i hi
  rw [← sum_blocks]
  induction i with
  | zero => rw [h0]; simp
  | succ i ih => rw [hs i hi, ih (by omega), Finset.sum_range_succ _ (i + 1), two_add]

/-- Adding the doubled sums of all twelve row blocks gives the doubled sum over the sequences and their positions. -/
theorem accum_all (g : Fin 6 → Fin 4096 → EReal) (acc : ℕ → EReal)
    (h0 : acc 0 = two * ∑ p : Fin 2048, g (seqOf (2048 * 0 + p.val)) (posOf (2048 * 0 + p.val)))
    (hs : ∀ i, i + 1 < 12 → acc (i + 1) = acc i + two * ∑ p : Fin 2048, g (seqOf (2048 * (i + 1) + p.val)) (posOf (2048 * (i + 1) + p.val))) :
    acc 11 = two * ∑ b, ∑ t, g b t := by
  have h := accum_rows (fun R => g (seqOf R) (posOf R)) acc (by rw [h0, Finset.sum_range])
    (fun i hi => by rw [hs i hi, Finset.sum_range]) 11 (by omega)
  rw [h, ← sum_rows g]

end Cert.Spec

end
-- ==== Proof.Entries.lean ====
/-
  What one grid point of the kernel computes in exact arithmetic, entry by entry.
-/
module

public import proofs.«01_k».proof.Proof.Closed
public import proofs.«01_k».proof.Proof.Spec
public import Idealize.ShloMosaic.Lib.Pipeline.ValueKit.Tiles
public import Idealize.ShloMosaic.Lib.MatmulPlain

@[expose] public section

set_option maxRecDepth 16384

noncomputable section

namespace Cert.KernelIdeal.Val

open Cert.KernelIdeal Cert.KernelIdeal.Gen
open Idealize.ShloMosaic Idealize.ShloMosaic.ValueIdx

/-- The column block a grid point works on. -/
theorem off_val : ∀ t : Fin grid0.N, k0_off1 (grid0.coords t) 0 = 1024 * (t.val % 8) ∧ k0_off1 (grid0.coords t) 1 = 0
    ∧ k0_off2 (grid0.coords t) 0 = 0 ∧ k0_off2 (grid0.coords t) 1 = 1024 * (t.val % 8)
    ∧ k0_off3 (grid0.coords t) 0 = 0 ∧ k0_off3 (grid0.coords t) 1 = 1024 * (t.val % 8) := by decide +kernel

/-- Column `q` of the column block of point `n`. -/
def colIx (n : ℕ) (q : Fin 1024) : Fin 8192 := ⟨1024 * (n % 8) + q.val, by have := q.isLt; omega⟩

/-- A column of scales, repeated along the lanes, reads the row's scale. -/
theorem bcCol_apply {N : ℕ} {α : Type} (x : S2048x1.Idx → α) (h : S2048x1.Broadcasts ⟨2, ![2048, N]⟩) (p : Fin 2048) (o : Fin N) :
    broadcastTo ⟨2, ![2048, N]⟩ x h (ix2 p o) = x (ix2 p 0) :=
  broadcastTo_apply x h (ix2 p o) (ix2 p 0) fun a => by
    match a with
    | ⟨0, _⟩ => rfl
    | ⟨1, _⟩ => rfl

/-- A row of scales, repeated down the rows, reads the column's scale. -/
theorem bcRow_apply {M N : ℕ} (hN : N ≠ 1) {α : Type} (x : (⟨2, ![1, N]⟩ : Shape).Idx → α)
    (h : (⟨2, ![1, N]⟩ : Shape).Broadcasts ⟨2, ![M, N]⟩) (p : Fin M) (o : Fin N) :
    broadcastTo ⟨2, ![M, N]⟩ x h (ix2 p o) = x (ix2 0 o) :=
  broadcastTo_apply x h (ix2 p o) (ix2 0 o) fun a => by
    match a with
    | ⟨0, _⟩ => rfl
    | ⟨1, _⟩ => exact (if_neg hN).symm

/-- The entries of a row block's `dh`. -/
theorem dhOf_apply (x0 : Vec Ideal S2048x1024 .fp8e5m2) (x1 : Vec Ideal S1x1x2048 .f32) (x7 : Vec Ideal S16x1024 .bf16)
    (p : Fin 2048) (k : Fin 16) :
    dhOf x0 x1 x7 (ix2 p k) = (∑ o : Fin 1024, x0 (ix2 p o) * x7 (ix2 k o)) * x1 (ix3 0 0 p) * Spec.two := by
  unfold dhOf k0_pay1 k0_pay24 k0_pay23
  refine Spec.mul_eq (Spec.mul_eq ?_ ?_) rfl
  · refine (Ideal.matmul_transposedRhs_apply _ _ _ _ p k).trans ?_
    rw [constant_apply, Ideal.ofBits_zero_f32, zero_add, shapeCast_self]; rfl
  · exact extractStridedSlice_apply _ _ _ (ix2 p k) (ix2 p ⟨k.val, by have := k.isLt; omega⟩) fun a => by
      match a with
      | ⟨0, _⟩ => exact (Nat.zero_add _).symm
      | ⟨1, _⟩ => exact (Nat.zero_add _).symm

/-- The entries of a row block's contribution to the gradient of `lora_b`. -/
theorem partOf_apply (x0 : Vec Ideal S2048x1024 .fp8e5m2) (x1 : Vec Ideal S1x1x2048 .f32) (x2 : Vec Ideal S2048x16 .fp8e4m3)
    (x3 : Vec Ideal S1x1x2048 .f32) (r : Fin 16) (o : Fin 1024) :
    partOf x0 x1 x2 x3 (ix2 r o)
      = Spec.two * ∑ p : Fin 2048, (x2 (ix2 p r) * x3 (ix3 0 0 p)) * (x0 (ix2 p o) * x1 (ix3 0 0 p)) := by
  unfold partOf k0_pay2 k0_pay23
  refine Spec.mul_eq rfl ((Ideal.matmul_plain_apply _ _ _ _ r o).trans ?_)
  rw [constant_apply, Ideal.ofBits_zero_f32, zero_add]
  refine Finset.sum_congr rfl fun p _ => Spec.mul_eq (Spec.mul_eq ?_ ?_) (Spec.mul_eq ?_ ?_)
  · rw [truncf_apply]
    refine (transpose_apply [1, 0] _ transposes_S2048x16_p1_0_S16x2048 (ix2 r p) (ix2 p r) fun b => ?_).trans ?_
    · match b with
      | ⟨0, _⟩ => rfl
      | ⟨1, _⟩ => rfl
    · rw [shapeCast_self]; rfl
  · refine (bcRow_apply (by decide) _ broadcasts_S1x2048_S16x2048 r p).trans ?_
    rw [shapeCast_self]
    exact shapeCast_apply x3 shapeCasts_S1x1x2048_S1x2048 (ix2 0 p) (ix3 0 0 p) (by
      refine (Shape.rowMajor_val_three (d := ![1, 1, 2048]) _).trans (Eq.trans ?_ (Shape.rowMajor_val_two (d := ![1, 2048]) _).symm)
      simp [ix2, ix3])
  · rw [shapeCast_self]; rfl
  · refine (bcCol_apply _ broadcasts_S2048x1_S2048x1024 p o).trans ?_
    rw [truncf_apply]
    exact extractStridedSlice_apply _ _ slices_S2048x128_o0_0_S2048x1 (ix2 p 0) (ix2 p 0) fun a => by
      match a with
      | ⟨0, _⟩ => exact (Nat.zero_add _).symm
      | ⟨1, _⟩ => rfl

/-- A later row block's store adds its contribution to what the buffer held. -/
theorem addPart_apply (x0 : Vec Ideal S2048x1024 .fp8e5m2) (x1 : Vec Ideal S1x1x2048 .f32) (x2 : Vec Ideal S2048x16 .fp8e4m3)
    (x3 : Vec Ideal S1x1x2048 .f32) (x9 : Vec Ideal S16x1024 .f32) (y : S16x1024.Idx) :
    k0_pay3 (colOf x1) (k0_pay23 x0) x3 x2 x9 y = x9 y + partOf x0 x1 x2 x3 y := by
  unfold k0_pay3
  refine Spec.add_eq ?_ rfl
  rw [shapeCast_self]

/-- The entries of the `dx` block of a grid point. -/
theorem dxOf_apply (t : Fin grid0.N) (x0 : Vec Ideal S2048x1024 .fp8e5m2) (x4 : Vec Ideal S8192x1024 .fp8e4m3) (x5 : Vec Ideal S1x8192 .f32)
    (x6 : Vec Ideal S16x8192 .bf16) (d : Vec Ideal S2048x16 .bf16) (s : Vec Ideal S2048x128 .f32) (p : Fin 2048) (q : Fin 1024) :
    dxOf (grid0.coords t) x0 x4 x5 x6 d s (ix2 p q)
      = (∑ o : Fin 1024, x0 (ix2 p o) * x4 (ix2 (colIx t.val q) o)) * s (ix2 p 0) * x5 (ix2 0 (colIx t.val q))
        + ∑ r : Fin 16, d (ix2 p r) * x6 (ix2 r (colIx t.val q)) := by
  obtain ⟨h10, h11, h20, h21, h30, h31⟩ := off_val t
  unfold dxOf k0_pay4
  refine Spec.add_eq (Spec.mul_eq (Spec.mul_eq ?_ ?_) ?_) ?_
  · refine (Ideal.matmul_transposedRhs_apply _ _ _ _ p q).trans ?_
    rw [constant_apply, Ideal.ofBits_zero_f32, zero_add]
    refine Finset.sum_congr rfl fun o _ => Spec.mul_eq ?_ ?_
    · rw [shapeCast_self]
    · exact View.ld_unit_apply_of x4 _ _ _ (ix2 q o) (ix2 (colIx t.val q) o) fun a => by
        match a with
        | ⟨0, _⟩ => exact congrArg (· + q.val) h10.symm
        | ⟨1, _⟩ => exact (Nat.zero_add _).symm.trans (congrArg (· + o.val) h11.symm)
  · refine (bcCol_apply _ broadcasts_S2048x1_S2048x1024 p q).trans ?_
    exact View.ld_unit_apply_of s _ _ _ (ix2 p 0) (ix2 p 0) fun a => by
      match a with
      | ⟨0, _⟩ => exact (Nat.zero_add _).symm
      | ⟨1, _⟩ => rfl
  · refine (bcRow_apply (by decide) _ broadcasts_S1x1024_S2048x1024 p q).trans ?_
    rw [shapeCast_self]
    exact View.ld_unit_apply_of x5 _ _ _ (ix2 0 q) (ix2 0 (colIx t.val q)) fun a => by
      match a with
      | ⟨0, _⟩ => exact h30.symm
      | ⟨1, _⟩ => exact congrArg (· + q.val) h31.symm
  · refine (Ideal.matmul_plain_apply _ _ _ _ p q).trans ?_
    rw [constant_apply, Ideal.ofBits_zero_f32, zero_add]
    refine Finset.sum_congr rfl fun r _ => Spec.mul_eq ?_ ?_
    · rw [shapeCast_self]
    · rw [shapeCast_self]
      exact View.ld_unit_apply_of x6 _ _ _ (ix2 r q) (ix2 r (colIx t.val q)) fun a => by
        match a with
        | ⟨0, _⟩ => exact (Nat.zero_add _).symm.trans (congrArg (· + r.val) h20.symm)
        | ⟨1, _⟩ => exact congrArg (· + q.val) h21.symm

end Cert.KernelIdeal.Val

end
-- ==== Proof.Blocks.lean ====
/-
  The blocks the kernel's windows hand it at a grid point, entry by entry, as entries of the argument arrays.
-/
module

public import proofs.«01_k».proof.Proof.Run
public import proofs.«01_k».proof.Proof.Entries

@[expose] public section

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Row `p` of the row block of point `n`, in the flattened arrays. -/
def rowIx (n : ℕ) (p : Fin 2048) : ℕ := 2048 * (n / 8) + p.val

/-- Splitting a row number into sequence and position loses nothing. -/
theorem row_split (n : ℕ) (h : n < 24576) : 4096 * (Spec.seqOf n).val + (Spec.posOf n).val = n := by
  show 4096 * (n / 4096 % 6) + n % 4096 = n; omega

/-- The row lies in the arrays. -/
theorem rowIx_lt (t : Fin cfg0.N) (p : Fin 2048) : rowIx t.val p < 24576 := by
  have := lt96 t; have := p.isLt; unfold rowIx; omega

/-- The block index of window 0 at a grid point. -/
theorem idx_0 : ∀ t : Fin cfg0.N, win0_0.index t (0 : Fin 2) = t.val / 8 ∧ win0_0.index t (1 : Fin 2) = 0 :=
  (by decide +kernel : ∀ t : Fin grid0.N, _)
/-- The block index of window 2 at a grid point. -/
theorem idx_2 : ∀ t : Fin cfg0.N, win0_2.index t (0 : Fin 2) = t.val / 8 ∧ win0_2.index t (1 : Fin 2) = 0 :=
  (by decide +kernel : ∀ t : Fin grid0.N, _)
/-- The block index of window 10 at a grid point. -/
theorem idx_10 : ∀ t : Fin cfg0.N, win0_10.index t (0 : Fin 2) = t.val / 8 ∧ win0_10.index t (1 : Fin 2) = 0 :=
  (by decide +kernel : ∀ t : Fin grid0.N, _)
/-- The block index of window 1 at a grid point. -/
theorem idx_1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
/-- The block index of window 3 at a grid point. -/
theorem idx_3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
/-- The block index of window 4 at a grid point. -/
theorem idx_4 : ∀ t : Fin cfg0.N, win0_4.index t (0 : Fin 2) = 0 ∧ win0_4.index t (1 : Fin 2) = 0 :=
  (by decide +kernel : ∀ t : Fin grid0.N, _)
/-- The block index of window 5 at a grid point. -/
theorem idx_5 : ∀ t : Fin cfg0.N, win0_5.index t (0 : Fin 2) = 0 ∧ win0_5.index t (1 : Fin 2) = 0 :=
  (by decide +kernel : ∀ t : Fin grid0.N, _)
/-- The block index of window 6 at a grid point. -/
theorem idx_6 : ∀ t : Fin cfg0.N, win0_6.index t (0 : Fin 2) = 0 ∧ win0_6.index t (1 : Fin 2) = 0 :=
  (by decide +kernel : ∀ t : Fin grid0.N, _)
/-- The block index of window 7 at a grid point. -/
theorem idx_7 : ∀ t : Fin cfg0.N, win0_7.index t (0 : Fin 2) = 0 ∧ win0_7.index t (1 : Fin 2) = 0 :=
  (by decide +kernel : ∀ t : Fin grid0.N, _)
/-- The block index of window 9 at a grid point. -/
theorem idx_9 : ∀ t : Fin cfg0.N, win0_9.index t (0 : Fin 2) = 0 ∧ win0_9.index t (1 : Fin 2) = 0 :=
  (by decide +kernel : ∀ t : Fin grid0.N, _)
/-- The block index of window 8 at a grid point. -/
theorem idx_8 : ∀ t : Fin cfg0.N, win0_8.index t (0 : Fin 2) = t.val / 8 ∧ win0_8.index t (1 : Fin 2) = t.val % 8 :=
  (by decide +kernel : ∀ t : Fin grid0.N, _)

/-- A row block of `dy` reads the argument's row. -/
theorem iblk0_apply (c : Dev nD) (t : Fin cfg0.N) (p : Fin 2048) (o : Fin 1024) :
    iblk m c 0 t (ix2 p o) = m ((c : Thread nD τ).loc main_arg0) (ix3 (Spec.seqOf (rowIx t.val p)) (Spec.posOf (rowIx t.val p)) o) := by
  obtain ⟨e0, e1⟩ := idx_0 t
  have e : ((cfg0.win 0).blk t).view.emb (ix2 p o) = ix2 ⟨rowIx t.val p, rowIx_lt t p⟩ o := by
    funext a; apply Fin.ext
    match a with
    | ⟨0, _⟩ => show win0_0.index t (0 : Fin 2) * 2048 + 1 * p.val = 2048 * (t.val / 8) + p.val; omega
    | ⟨1, _⟩ => show win0_0.index t (1 : Fin 2) * 1024 + 1 * o.val = o.val; omega
  show V m c main_v0 (((cfg0.win 0).blk t).view.emb (ix2 p o)) = _
  rw [e, V_main_v0]
  refine shapeCast_apply _ _ _ (ix3 (Spec.seqOf (rowIx t.val p)) (Spec.posOf (rowIx t.val p)) o) ?_
  refine (Shape.rowMajor_val_three (d := ![6, 4096, 1024]) _).trans (Eq.trans ?_ (Shape.rowMajor_val_two (d := ![24576, 1024]) _).symm)
  show ((Spec.seqOf (rowIx t.val p)).val * 4096 + (Spec.posOf (rowIx t.val p)).val) * 1024 + o.val = rowIx t.val p * 1024 + o.val
  have := row_split (rowIx t.val p) (rowIx_lt t p)
  omega

/-- A row block of `z` reads the argument's row. -/
theorem iblk2_apply (c : Dev nD) (t : Fin cfg0.N) (p : Fin 2048) (o : Fin 16) :
    iblk m c 2 t (ix2 p o) = m ((c : Thread nD τ).loc main_arg2) (ix3 (Spec.seqOf (rowIx t.val p)) (Spec.posOf (rowIx t.val p)) o) := by
  obtain ⟨e0, e1⟩ := idx_2 t
  have e : ((cfg0.win 2).blk t).view.emb (ix2 p o) = ix2 ⟨rowIx t.val p, rowIx_lt t p⟩ o := by
    funext a; apply Fin.ext
    match a with
    | ⟨0, _⟩ => show win0_2.index t (0 : Fin 2) * 2048 + 1 * p.val = 2048 * (t.val / 8) + p.val; omega
    | ⟨1, _⟩ => show win0_2.index t (1 : Fin 2) * 16 + 1 * o.val = o.val; omega
  show V m c main_v2 (((cfg0.win 2).blk t).view.emb (ix2 p o)) = _
  rw [e, V_main_v2]
  refine shapeCast_apply _ _ _ (ix3 (Spec.seqOf (rowIx t.val p)) (Spec.posOf (rowIx t.val p)) o) ?_
  refine (Shape.rowMajor_val_three (d := ![6, 4096, 16]) _).trans (Eq.trans ?_ (Shape.rowMajor_val_two (d := ![24576, 16]) _).symm)
  show ((Spec.seqOf (rowIx t.val p)).val * 4096 + (Spec.posOf (rowIx t.val p)).val) * 16 + o.val = rowIx t.val p * 16 + o.val
  have := row_split (rowIx t.val p) (rowIx_lt t p)
  omega

/-- A row block's scales of `dy` read the argument's. -/
theorem iblk1_apply (c : Dev nD) (t : Fin cfg0.N) (p : Fin 2048) :
    iblk m c 1 t (ix3 0 0 p) = m ((c : Thread nD τ).loc main_arg1) (ix2 (Spec.seqOf (rowIx t.val p)) (Spec.posOf (rowIx t.val p))) := by
  obtain ⟨e0, e1, e2⟩ := idx_1 t
  have ht := lt96 t
  have e : ((cfg0.win 1).blk t).view.emb (ix3 0 0 p) = ix3 ⟨t.val / 8, by omega⟩ 0 p := by
    funext a; apply Fin.ext
    match a with
    | ⟨0, _⟩ => show win0_1.index t (0 : Fin 3) * 1 + 1 * 0 = t.val / 8; omega
    | ⟨1, _⟩ => show win0_1.index t (1 : Fin 3) * 1 + 1 * 0 = 0; omega
    | ⟨2, _⟩ => show win0_1.index t (2 : Fin 3) * 2048 + 1 * p.val = p.val; omega
  show V m c main_v1 (((cfg0.win 1).blk t).view.emb (ix3 0 0 p)) = _
  rw [e, V_main_v1]
  refine shapeCast_apply _ _ _ (ix2 (Spec.seqOf (rowIx t.val p)) (Spec.posOf (rowIx t.val p))) ?_
  refine (Shape.rowMajor_val_two (d := ![6, 4096]) _).trans (Eq.trans ?_ (Shape.rowMajor_val_three (d := ![12, 1, 2048]) _).symm)
  show (Spec.seqOf (rowIx t.val p)).val * 4096 + (Spec.posOf (rowIx t.val p)).val = (t.val / 8 * 1 + 0) * 2048 + p.val
  have := row_split (rowIx t.val p) (rowIx_lt t p)
  have : rowIx t.val p = 2048 * (t.val / 8) + p.val := rfl
  omega

/-- A row block's scales of `z` read the argument's. -/
theorem iblk3_apply (c : Dev nD) (t : Fin cfg0.N) (p : Fin 2048) :
    iblk m c 3 t (ix3 0 0 p) = m ((c : Thread nD τ).loc main_arg3) (ix2 (Spec.seqOf (rowIx t.val p)) (Spec.posOf (rowIx t.val p))) := by
  obtain ⟨e0, e1, e2⟩ := idx_3 t
  have ht := lt96 t
  have e : ((cfg0.win 3).blk t).view.emb (ix3 0 0 p) = ix3 ⟨t.val / 8, by omega⟩ 0 p := by
    funext a; apply Fin.ext
    match a with
    | ⟨0, _⟩ => show win0_3.index t (0 : Fin 3) * 1 + 1 * 0 = t.val / 8; omega
    | ⟨1, _⟩ => show win0_3.index t (1 : Fin 3) * 1 + 1 * 0 = 0; omega
    | ⟨2, _⟩ => show win0_3.index t (2 : Fin 3) * 2048 + 1 * p.val = p.val; omega
  show V m c main_v3 (((cfg0.win 3).blk t).view.emb (ix3 0 0 p)) = _
  rw [e, V_main_v3]
  refine shapeCast_apply _ _ _ (ix2 (Spec.seqOf (rowIx t.val p)) (Spec.posOf (rowIx t.val p))) ?_
  refine (Shape.rowMajor_val_two (d := ![6, 4096]) _).trans (Eq.trans ?_ (Shape.rowMajor_val_three (d := ![12, 1, 2048]) _).symm)
  show (Spec.seqOf (rowIx t.val p)).val * 4096 + (Spec.posOf (rowIx t.val p)).val = (t.val / 8 * 1 + 0) * 2048 + p.val
  have := row_split (rowIx t.val p) (rowIx_lt t p)
  have : rowIx t.val p = 2048 * (t.val / 8) + p.val := rfl
  omega

/-- An index of window 4's block is the same index of its array. -/
theorem emb_4 (t : Fin cfg0.N) (j : S8192x1024.Idx) : ((cfg0.win 4).blk t).view.emb j = j := by
  obtain ⟨e0, e1⟩ := idx_4 t
  funext a; apply Fin.ext
  match a with
  | ⟨0, _⟩ => show win0_4.index t (0 : Fin 2) * 8192 + 1 * (j 0).val = (j 0).val; omega
  | ⟨1, _⟩ => show win0_4.index t (1 : Fin 2) * 1024 + 1 * (j 1).val = (j 1).val; omega
/-- An index of window 5's block is the same index of its array. -/
theorem emb_5 (t : Fin cfg0.N) (j : S1x8192.Idx) : ((cfg0.win 5).blk t).view.emb j = j := by
  obtain ⟨e0, e1⟩ := idx_5 t
  funext a; apply Fin.ext
  match a with
  | ⟨0, _⟩ => show win0_5.index t (0 : Fin 2) * 1 + 1 * (j 0).val = (j 0).val; omega
  | ⟨1, _⟩ => show win0_5.index t (1 : Fin 2) * 8192 + 1 * (j 1).val = (j 1).val; omega
/-- An index of window 6's block is the same index of its array. -/
theorem emb_6 (t : Fin cfg0.N) (j : S16x8192.Idx) : ((cfg0.win 6).blk t).view.emb j = j := by
  obtain ⟨e0, e1⟩ := idx_6 t
  funext a; apply Fin.ext
  match a with
  | ⟨0, _⟩ => show win0_6.index t (0 : Fin 2) * 16 + 1 * (j 0).val = (j 0).val; omega
  | ⟨1, _⟩ => show win0_6.index t (1 : Fin 2) * 8192 + 1 * (j 1).val = (j 1).val; omega
/-- An index of window 7's block is the same index of its array. -/
theorem emb_7 (t : Fin cfg0.N) (j : S16x1024.Idx) : ((cfg0.win 7).blk t).view.emb j = j := by
  obtain ⟨e0, e1⟩ := idx_7 t
  funext a; apply Fin.ext
  match a with
  | ⟨0, _⟩ => show win0_7.index t (0 : Fin 2) * 16 + 1 * (j 0).val = (j 0).val; omega
  | ⟨1, _⟩ => show win0_7.index t (1 : Fin 2) * 1024 + 1 * (j 1).val = (j 1).val; omega

/-- The weights are handed whole. -/
theorem iblk4_apply (c : Dev nD) (t : Fin cfg0.N) (d : Fin 8192) (o : Fin 1024) :
    iblk m c 4 t (ix2 d o) = m ((c : Thread nD τ).loc main_arg4) (ix2 d o) := by
  show V m c main_arg4 (((cfg0.win 4).blk t).view.emb (ix2 d o)) = _
  rw [emb_4, V_main_arg4]
/-- The weights' scales are handed whole. -/
theorem iblk5_apply (c : Dev nD) (t : Fin cfg0.N) (d : Fin 8192) :
    iblk m c 5 t (ix2 0 d) = m ((c : Thread nD τ).loc main_arg5) (ix1 d) := by
  show V m c main_v4 (((cfg0.win 5).blk t).view.emb (ix2 0 d)) = _
  rw [emb_5, V_main_v4]
  refine shapeCast_apply _ _ _ (ix1 d) ?_
  refine (Shape.rowMajor_val_one (d := ![8192]) _).trans (Eq.trans ?_ (Shape.rowMajor_val_two (d := ![1, 8192]) _).symm)
  simp [ix1, ix2]
/-- `lora_a` is handed whole and transposed. -/
theorem iblk6_apply (c : Dev nD) (t : Fin cfg0.N) (r : Fin 16) (d : Fin 8192) :
    iblk m c 6 t (ix2 r d) = m ((c : Thread nD τ).loc main_arg6) (ix2 d r) := by
  show V m c main_v5 (((cfg0.win 6).blk t).view.emb (ix2 r d)) = _
  rw [emb_6, V_main_v5]
  exact transpose_apply [1, 0] _ transposes_S8192x16_S16x8192_1_0 (ix2 r d) (ix2 d r) fun b => by
    match b with
    | ⟨0, _⟩ => rfl
    | ⟨1, _⟩ => rfl
/-- `lora_b` is handed whole. -/
theorem iblk7_apply (c : Dev nD) (t : Fin cfg0.N) (k : Fin 16) (o : Fin 1024) :
    iblk m c 7 t (ix2 k o) = m ((c : Thread nD τ).loc main_arg7) (ix2 k o) := by
  show V m c main_arg7 (((cfg0.win 7).blk t).view.emb (ix2 k o)) = _
  rw [emb_7, V_main_arg7]

/-- An index of the block of `dx` is the row and the column of the array. -/
theorem emb_8 (t : Fin cfg0.N) (p : Fin 2048) (q : Fin 1024) :
    ((cfg0.win 8).blk t).view.emb (ix2 p q) = ix2 ⟨rowIx t.val p, rowIx_lt t p⟩ (colIx t.val q) := by
  obtain ⟨e0, e1⟩ := idx_8 t
  funext a; apply Fin.ext
  match a with
  | ⟨0, _⟩ => show win0_8.index t (0 : Fin 2) * 2048 + 1 * p.val = 2048 * (t.val / 8) + p.val; omega
  | ⟨1, _⟩ => show win0_8.index t (1 : Fin 2) * 1024 + 1 * q.val = 1024 * (t.val % 8) + q.val; omega
/-- An index of the block of the gradient of `lora_b` is the same index of its array. -/
theorem emb_9 (t : Fin cfg0.N) (j : S16x1024.Idx) : ((cfg0.win 9).blk t).view.emb j = j := by
  obtain ⟨e0, e1⟩ := idx_9 t
  funext a; apply Fin.ext
  match a with
  | ⟨0, _⟩ => show win0_9.index t (0 : Fin 2) * 16 + 1 * (j 0).val = (j 0).val; omega
  | ⟨1, _⟩ => show win0_9.index t (1 : Fin 2) * 1024 + 1 * (j 1).val = (j 1).val; omega
/-- An index of the block of `dh` is the row of the array. -/
theorem emb_10 (t : Fin cfg0.N) (p : Fin 2048) (k : Fin 16) :
    ((cfg0.win 10).blk t).view.emb (ix2 p k) = ix2 ⟨rowIx t.val p, rowIx_lt t p⟩ k := by
  obtain ⟨e0, e1⟩ := idx_10 t
  funext a; apply Fin.ext
  match a with
  | ⟨0, _⟩ => show win0_10.index t (0 : Fin 2) * 2048 + 1 * p.val = 2048 * (t.val / 8) + p.val; omega
  | ⟨1, _⟩ => show win0_10.index t (1 : Fin 2) * 16 + 1 * k.val = k.val; omega

end Cert.KernelIdeal.Val

end
-- ==== Proof.Arrays.lean ====
/-
  What the kernel's three output arrays hold after the run, in exact arithmetic: the gradients of Spec.lean.
-/
module

public import proofs.«01_k».proof.Proof.Blocks

@[expose] public section

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The argument `dy`. -/
abbrev aDy (c : Dev nD) : Vec Ideal S6x4096x1024 .fp8e5m2 := m ((c : Thread nD τ).loc main_arg0)
/-- The scales of `dy`. -/
abbrev aS (c : Dev nD) : Vec Ideal S6x4096 .f32 := m ((c : Thread nD τ).loc main_arg1)
/-- The argument `z`. -/
abbrev aZ (c : Dev nD) : Vec Ideal S6x4096x16 .fp8e4m3 := m ((c : Thread nD τ).loc main_arg2)
/-- The scales of `z`. -/
abbrev aZs (c : Dev nD) : Vec Ideal S6x4096 .f32 := m ((c : Thread nD τ).loc main_arg3)
/-- The weights. -/
abbrev aW (c : Dev nD) : Vec Ideal S8192x1024 .fp8e4m3 := m ((c : Thread nD τ).loc main_arg4)
/-- The weights' scales. -/
abbrev aWs (c : Dev nD) : Vec Ideal S8192 .f32 := m ((c : Thread nD τ).loc main_arg5)
/-- The argument `lora_a`. -/
abbrev aLa (c : Dev nD) : Vec Ideal S8192x16 .bf16 := m ((c : Thread nD τ).loc main_arg6)
/-- The argument `lora_b`. -/
abbrev aLb (c : Dev nD) : Vec Ideal S16x1024 .bf16 := m ((c : Thread nD τ).loc main_arg7)

/-! ## Block by block -/

/-- A row block's `dh` is the gradient of the rank-16 activations on its rows. -/
theorem dhAt_apply (c : Dev nD) (t : Fin cfg0.N) (p : Fin 2048) (k : Fin 16) :
    dhAt m c t (ix2 p k) = Spec.dh (aDy m c) (aS m c) (aLb m c) (Spec.seqOf (rowIx t.val p)) (Spec.posOf (rowIx t.val p)) k := by
  refine (dhOf_apply _ _ _ p k).trans (Spec.mul_eq (Spec.mul_eq (Finset.sum_congr rfl fun o _ => Spec.mul_eq ?_ ?_) ?_) rfl)
  · exact iblk0_apply m c t p o
  · exact iblk7_apply m c t k o
  · exact iblk1_apply m c t p

/-- The head of a row block has the row block's rows. -/
theorem rowIx_head (t : Fin cfg0.N) (p : Fin 2048) : rowIx (head t.val).val p = rowIx t.val p := by
  unfold rowIx; rw [head_val]; omega

/-- A grid point's block of `dx` is the gradient of the input on its rows and columns. -/
theorem dxAt_apply (c : Dev nD) (t : Fin cfg0.N) (p : Fin 2048) (q : Fin 1024) :
    dxAt m c t (ix2 p q) = Spec.dx (aDy m c) (aS m c) (aW m c) (aWs m c) (aLa m c) (aLb m c)
      (Spec.seqOf (rowIx t.val p)) (Spec.posOf (rowIx t.val p)) (colIx t.val q) := by
  refine (dxOf_apply t _ _ _ _ _ _ p q).trans (Spec.add_eq (Spec.mul_eq (Spec.mul_eq
    (Finset.sum_congr rfl fun o _ => Spec.mul_eq ?_ ?_) ?_) ?_) (Finset.sum_congr rfl fun r _ => Spec.mul_eq ?_ ?_))
  · exact iblk0_apply m c t p o
  · exact iblk4_apply m c t (colIx t.val q) o
  · refine (iblk1_apply m c (head t.val) p).trans ?_
    rw [rowIx_head]
  · exact iblk5_apply m c t (colIx t.val q)
  · refine (dhAt_apply m c (head t.val) p r).trans ?_
    rw [rowIx_head]
  · exact iblk6_apply m c t r (colIx t.val q)

/-- A row block contributes twice the sum over its rows. -/
theorem part_apply (c : Dev nD) (t : Fin cfg0.N) (i : ℕ) (hi : t.val / 8 = i) (r : Fin 16) (o : Fin 1024) :
    partOf (iblk m c 0 t) (iblk m c 1 t) (iblk m c 2 t) (iblk m c 3 t) (ix2 r o)
      = Spec.two * ∑ p : Fin 2048, Spec.term (aDy m c) (aS m c) (aZ m c) (aZs m c) r o
          (Spec.seqOf (2048 * i + p.val)) (Spec.posOf (2048 * i + p.val)) := by
  subst hi
  refine (partOf_apply _ _ _ _ r o).trans (Spec.mul_eq rfl (Finset.sum_congr rfl fun p _ =>
    Spec.mul_eq (Spec.mul_eq ?_ ?_) (Spec.mul_eq ?_ ?_)))
  · exact iblk2_apply m c t p r
  · exact iblk3_apply m c t p
  · exact iblk0_apply m c t p o
  · exact iblk1_apply m c t p

/-- Within a row block the accumulated gradient does not change. -/
theorem dbAt_block (c : Dev nD) (i : ℕ) (k : ℕ) (hk : k < 8) (h : 8 * i + k < cfg0.N) :
    dbAt m c (8 * i + k) h = dbAt m c (8 * i) (by omega) := by
  induction k with
  | zero => rfl
  | succ k ih =>
    exact (dbAt_idle m c ⟨8 * i + (k + 1), h⟩ (by show (8 * i + (k + 1)) % 8 ≠ 0; omega)).trans (ih (by omega) (by omega))

/-- The first point of a later row block adds the block's contribution. -/
theorem dbAt_step (c : Dev nD) (i : ℕ) (h : 8 * (i + 1) < cfg0.N) (r : Fin 16) (o : Fin 1024) :
    dbAt m c (8 * (i + 1)) h (ix2 r o) = dbAt m c (8 * i) (by omega) (ix2 r o)
      + Spec.two * ∑ p : Fin 2048, Spec.term (aDy m c) (aS m c) (aZ m c) (aZs m c) r o
          (Spec.seqOf (2048 * (i + 1) + p.val)) (Spec.posOf (2048 * (i + 1) + p.val)) := by
  rw [← dbAt_block m c i 7 (by omega) (by omega)]
  refine (congrFun (dbAt_open m c ⟨8 * (i + 1), h⟩ (by show 8 * (i + 1) ≠ 0; omega) (by show 8 * (i + 1) % 8 = 0; omega)) (ix2 r o)).trans ?_
  refine (addPart_apply _ _ _ _ _ (ix2 r o)).trans (Spec.add_eq rfl ?_)
  exact part_apply m c ⟨8 * (i + 1), h⟩ (i + 1) (by show 8 * (i + 1) / 8 = i + 1; omega) r o

/-- After the last point the accumulated gradient is the gradient of `lora_b`. -/
theorem dbAt_last (c : Dev nD) (t : Fin cfg0.N) (ht : t.val = 95) (r : Fin 16) (o : Fin 1024) :
    dbAt m c t.val t.isLt (ix2 r o) = Spec.db (aDy m c) (aS m c) (aZ m c) (aZs m c) r o := by
  have hN : cfg0.N = 96 := N_0
  let acc : ℕ → EReal := fun i => if hi : 8 * i < cfg0.N then dbAt m c (8 * i) hi (ix2 r o) else 0
  have acc_eq : ∀ i (hi : 8 * i < cfg0.N), acc i = dbAt m c (8 * i) hi (ix2 r o) := fun i hi => dif_pos hi
  have key := Spec.accum_all (Spec.term (aDy m c) (aS m c) (aZ m c) (aZs m c) r o) acc
    ((acc_eq 0 (by omega)).trans ((congrFun (dbAt_zero m c ⟨8 * 0, by omega⟩ rfl) (ix2 r o)).trans
      (part_apply m c ⟨8 * 0, by omega⟩ 0 (by show 8 * 0 / 8 = 0; omega) r o)))
    (fun i hi => by rw [acc_eq (i + 1) (by omega), acc_eq i (by omega)]; exact dbAt_step m c i (by omega) r o)
  rw [acc_eq 11 (by omega)] at key
  have e : ∀ (n : ℕ) (hn : n < cfg0.N), n = 8 * 11 + 7 → dbAt m c n hn = dbAt m c (8 * 11) (by omega) := by
    intro n hn e; subst e; exact dbAt_block m c 11 7 (by omega) hn
  rw [e t.val t.isLt ht]
  exact key

/-! ## The arrays -/

/-- The grid point of a number below 96. -/
def pt (n : ℕ) (h : n < 96) : Fin cfg0.N := ⟨n, lt_of_lt_of_eq h (show 96 = cfg0.N from N_0.symm)⟩

/-- The array of `dx`, as the gradient of the input. -/
def arr8 (c : Dev nD) : Vec Ideal S24576x8192 .bf16 := fun y =>
  Spec.dx (aDy m c) (aS m c) (aW m c) (aWs m c) (aLa m c) (aLb m c) (Spec.seqOf (y 0).val) (Spec.posOf (y 0).val) (y 1)
/-- The array of `db`, as the gradient of `lora_b`. -/
def arr9 (c : Dev nD) : Vec Ideal S16x1024 .f32 := fun y => Spec.db (aDy m c) (aS m c) (aZ m c) (aZs m c) (y 0) (y 1)
/-- The array of `dh`, as the gradient of the rank-16 activations. -/
def arr10 (c : Dev nD) : Vec Ideal S24576x16 .bf16 := fun y =>
  Spec.dh (aDy m c) (aS m c) (aLb m c) (Spec.seqOf (y 0).val) (Spec.posOf (y 0).val) (y 1)

/-- After the run the array of `dx` holds the gradient of the input. -/
theorem final8 (c : Dev nD) : (dats m 0 c).arrAt 8 cfg0.N = arr8 m c := by
  refine (dats m 0 c).arrAt_eq_of_cover 8 (arr8 m c) (fun t _ => ?_) fun y => ?_
  · show (cfg0.win 8).cut (grid0.coords t) ((dats m 0 c).after 8 t) = _
    rw [after0_8]
    funext (j : S2048x1024.Idx)
    show dxAt m c t j = arr8 m c (((cfg0.win 8).blk t).view.emb j)
    rw [eq_ix2 j]
    exact (dxAt_apply m c t (j 0) (j 1)).trans (congrArg (arr8 m c) (emb_8 t (j 0) (j 1))).symm
  · have h0 : (y 0).val < 24576 := (y 0).isLt
    have h1 : (y 1).val < 8192 := (y 1).isLt
    refine ⟨pt (8 * ((y 0).val / 2048) + (y 1).val / 1024) (by omega), flush0_8 _, ?_⟩
    have h := ((cfg0.win 8).blk (pt (8 * ((y 0).val / 2048) + (y 1).val / 1024) (by omega))).view.emb_mem_set
      (ix2 ⟨(y 0).val % 2048, Nat.mod_lt _ (by decide)⟩ ⟨(y 1).val % 1024, Nat.mod_lt _ (by decide)⟩ : S2048x1024.Idx)
    rw [emb_8] at h
    convert h using 1
    funext a; apply Fin.ext
    match a with
    | ⟨0, _⟩ => show (y 0).val = 2048 * ((8 * ((y 0).val / 2048) + (y 1).val / 1024) / 8) + (y 0).val % 2048; omega
    | ⟨1, _⟩ => show (y 1).val = 1024 * ((8 * ((y 0).val / 2048) + (y 1).val / 1024) % 8) + (y 1).val % 1024; omega

/-- After the run the array of `db` holds the gradient of `lora_b`. -/
theorem final9 (c : Dev nD) : (dats m 0 c).arrAt 9 cfg0.N = arr9 m c := by
  refine (dats m 0 c).arrAt_eq_of_cover 9 (arr9 m c) (fun t ht => ?_) fun y => ?_
  · rw [flush_9, beq_iff_eq] at ht
    show (cfg0.win 9).cut (grid0.coords t) ((dats m 0 c).after 9 t) = _
    rw [after0_9]
    funext (j : S16x1024.Idx)
    show dbAt m c t.val t.isLt j = arr9 m c (((cfg0.win 9).blk t).view.emb j)
    rw [emb_9, eq_ix2 j]
    exact dbAt_last m c t ht (j 0) (j 1)
  · refine ⟨pt 95 (by omega), by rw [flush_9]; rfl, ?_⟩
    have h := ((cfg0.win 9).blk (pt 95 (by omega))).view.emb_mem_set (y : S16x1024.Idx)
    rwa [emb_9] at h

/-- After the run the array of `dh` holds the gradient of the rank-16 activations. -/
theorem final10 (c : Dev nD) : (dats m 0 c).arrAt 10 cfg0.N = arr10 m c := by
  refine (dats m 0 c).arrAt_eq_of_cover 10 (arr10 m c) (fun t _ => ?_) fun y => ?_
  · show (cfg0.win 10).cut (grid0.coords t) ((dats m 0 c).after 10 t) = _
    rw [after0_10]
    funext (j : S2048x16.Idx)
    show dhAt m c (head t.val) j = arr10 m c (((cfg0.win 10).blk t).view.emb j)
    rw [eq_ix2 j]
    refine (dhAt_apply m c (head t.val) (j 0) (j 1)).trans (Eq.trans ?_ (congrArg (arr10 m c) (emb_10 t (j 0) (j 1))).symm)
    exact congrArg (fun n => Spec.dh (aDy m c) (aS m c) (aLb m c) (Spec.seqOf n) (Spec.posOf n) (j 1)) (rowIx_head t (j 0))
  · have h0 : (y 0).val < 24576 := (y 0).isLt
    refine ⟨pt (8 * ((y 0).val / 2048) + 7) (by omega), by
      rw [flush_10, beq_iff_eq]; show (8 * ((y 0).val / 2048) + 7) % 8 = 7; omega, ?_⟩
    have h := ((cfg0.win 10).blk (pt (8 * ((y 0).val / 2048) + 7) (by omega))).view.emb_mem_set
      (ix2 ⟨(y 0).val % 2048, Nat.mod_lt _ (by decide)⟩ (⟨(y 1).val, (y 1).isLt⟩ : Fin 16) : S2048x16.Idx)
    rw [emb_10] at h
    convert h using 1
    funext a; apply Fin.ext
    match a with
    | ⟨0, _⟩ => show (y 0).val = 2048 * ((8 * ((y 0).val / 2048) + 7) / 8) + (y 0).val % 2048; omega
    | ⟨1, _⟩ => rfl

end Cert.KernelIdeal.Val

end
-- ==== Proof.Reference.lean ====
/-
  What the reference computes in exact arithmetic: its three results are the three gradients of Spec.lean, entry by
  entry.
-/
module

public import proofs.«01_k».proof.Proof.Gen.ReferenceIdeal.Value
public import proofs.«01_k».proof.Proof.Spec
public import Idealize.ShloMosaic.Lib.TwoAxisContraction
public import Idealize.ShloMosaic.Lib.MatmulPlain

@[expose] public section

set_option maxRecDepth 16384

noncomputable section

namespace Cert.ReferenceIdeal.Val

open Cert.ReferenceIdeal Cert.ReferenceIdeal.Gen Cert.ReferenceIdeal.Value
open Idealize.ShloMosaic Idealize.ShloMosaic.ValueIdx

/-- A product `[B,S,K] × [N,K]ᵀ` read at an entry: the accumulator plus the sum over the contracted axis. -/
theorem matmul3_apply {B S K N : ℕ} {φ₁ φ₂ : FTy} (wf : DotDims.WF ⟨3, ![B, S, K]⟩ ⟨2, ![N, K]⟩ ⟨3, ![B, S, N]⟩ [2] [1] [0, 1] [0] [] [])
    (prec : Option ContractPrecision) (lhs : FVec Ideal ⟨3, ![B, S, K]⟩ φ₁) (rhs : FVec Ideal ⟨2, ![N, K]⟩ φ₂)
    (acc : FVec Ideal ⟨3, ![B, S, N]⟩ .f32) (b : Fin B) (s : Fin S) (n : Fin N) :
    FloatOps.matmul (⟨[2], [1], [0, 1], [0], [], [], wf⟩ : DotDims ⟨3, ![B, S, K]⟩ ⟨2, ![N, K]⟩ ⟨3, ![B, S, N]⟩) prec lhs rhs acc (ix3 b s n)
      = acc (ix3 b s n) + ∑ k : Fin K, lhs (ix3 b s k) * rhs (ix2 n k) := by
  let D : DotDims ⟨3, ![B, S, K]⟩ ⟨2, ![N, K]⟩ ⟨3, ![B, S, N]⟩ := ⟨[2], [1], [0, 1], [0], [], [], wf⟩
  have hr : D.contr.rank = 1 := rfl
  have hs : D.contr.size ⟨0, by rw [hr]; exact Nat.one_pos⟩ = K := rfl
  rw [Ideal.matmul_apply, ← Equiv.sum_comp (contrEquiv1 D K hr hs).symm]
  refine congrArg (acc (ix3 b s n) + ·) (Finset.sum_congr rfl fun k _ => ?_)
  have hk := contrEquiv1_symm_val D K hr hs k
  have el : D.lhsIdx (ix3 b s n) ((contrEquiv1 D K hr hs).symm k) = ix3 b s k := by
    funext a; apply Fin.ext
    match a with
    | ⟨0, _⟩ => rfl
    | ⟨1, _⟩ => rfl
    | ⟨2, _⟩ => exact hk
  have er : D.rhsIdx (ix3 b s n) ((contrEquiv1 D K hr hs).symm k) = ix2 n k := by
    funext a; apply Fin.ext
    match a with
    | ⟨0, _⟩ => rfl
    | ⟨1, _⟩ => exact hk
  exact congrArg₂ (· * ·) (congrArg lhs el) (congrArg rhs er)

/-- A product `[B,S,R]ᵀ × [B,S,O]` over both leading axes read at an entry. -/
theorem matmulBS_apply {B S R O : ℕ} {φ₁ φ₂ : FTy} (wf : DotDims.WF ⟨3, ![B, S, R]⟩ ⟨3, ![B, S, O]⟩ ⟨2, ![R, O]⟩ [0, 1] [0, 1] [2] [2] [] [])
    (prec : Option ContractPrecision) (lhs : FVec Ideal ⟨3, ![B, S, R]⟩ φ₁) (rhs : FVec Ideal ⟨3, ![B, S, O]⟩ φ₂)
    (acc : FVec Ideal ⟨2, ![R, O]⟩ .f32) (r : Fin R) (o : Fin O) :
    FloatOps.matmul (⟨[0, 1], [0, 1], [2], [2], [], [], wf⟩ : DotDims ⟨3, ![B, S, R]⟩ ⟨3, ![B, S, O]⟩ ⟨2, ![R, O]⟩) prec lhs rhs acc (ix2 r o)
      = acc (ix2 r o) + ∑ b : Fin B, ∑ s : Fin S, lhs (ix3 b s r) * rhs (ix3 b s o) := by
  let D : DotDims ⟨3, ![B, S, R]⟩ ⟨3, ![B, S, O]⟩ ⟨2, ![R, O]⟩ := ⟨[0, 1], [0, 1], [2], [2], [], [], wf⟩
  have hr : D.contr.rank = 2 := rfl
  have c0 : D.contr.size ⟨0, by rw [hr]; omega⟩ = B := rfl
  have c1 : D.contr.size ⟨1, by rw [hr]; omega⟩ = S := rfl
  rw [Ideal.matmul_apply, ← Equiv.sum_comp (contrEquiv2 D B S hr c0 c1).symm, Fintype.sum_prod_type]
  refine congrArg (acc (ix2 r o) + ·) (Finset.sum_congr rfl fun b _ => Finset.sum_congr rfl fun s _ => ?_)
  have h0 := contrEquiv2_symm_val0 D B S hr c0 c1 (b, s)
  have h1 := contrEquiv2_symm_val1 D B S hr c0 c1 (b, s)
  have el : D.lhsIdx (ix2 r o) ((contrEquiv2 D B S hr c0 c1).symm (b, s)) = ix3 b s r := by
    funext a; apply Fin.ext
    match a with
    | ⟨0, _⟩ => exact h0
    | ⟨1, _⟩ => exact h1
    | ⟨2, _⟩ => rfl
  have er : D.rhsIdx (ix2 r o) ((contrEquiv2 D B S hr c0 c1).symm (b, s)) = ix3 b s o := by
    funext a; apply Fin.ext
    match a with
    | ⟨0, _⟩ => exact h0
    | ⟨1, _⟩ => exact h1
    | ⟨2, _⟩ => rfl
  exact congrArg₂ (· * ·) (congrArg lhs el) (congrArg rhs er)

/-- A scale per row, repeated along a third axis, reads the row's scale. -/
theorem rowScale_apply {N : ℕ} (hN : N ≠ 1) {α : Type} (x : S6x4096.Idx → α) (h : S6x4096.ShapeCasts S6x4096x1)
    (h' : S6x4096x1.Broadcasts ⟨3, ![6, 4096, N]⟩) (b : Fin 6) (t : Fin 4096) (n : Fin N) :
    broadcastTo ⟨3, ![6, 4096, N]⟩ (shapeCast S6x4096x1 x h) h' (ix3 b t n) = x (ix2 b t) := by
  refine (broadcastTo_apply _ h' (ix3 b t n) (ix3 b t 0) fun a => ?_).trans ?_
  · match a with
    | ⟨0, _⟩ => rfl
    | ⟨1, _⟩ => rfl
    | ⟨2, _⟩ => rfl
  · exact shapeCast_apply x h (ix3 b t 0) (ix2 b t) (by
      refine (Shape.rowMajor_val_two (d := ![6, 4096]) _).trans (Eq.trans ?_ (Shape.rowMajor_val_three (d := ![6, 4096, 1]) _).symm)
      simp [ix2, ix3])

/-- A scale per column, repeated over the rows, reads the column's scale. -/
theorem colScale_apply {α : Type} (x : S8192.Idx → α) (h : S8192.ShapeCasts S1x1x8192)
    (h' : S1x1x8192.Broadcasts S6x4096x8192) (b : Fin 6) (t : Fin 4096) (d : Fin 8192) :
    broadcastTo S6x4096x8192 (shapeCast S1x1x8192 x h) h' (ix3 b t d) = x (ix1 d) := by
  refine (broadcastTo_apply _ h' (ix3 b t d) (ix3 0 0 d) fun a => ?_).trans ?_
  · match a with
    | ⟨0, _⟩ => rfl
    | ⟨1, _⟩ => rfl
    | ⟨2, _⟩ => rfl
  · exact shapeCast_apply x h (ix3 0 0 d) (ix1 d) (by
      refine (Shape.rowMajor_val_one (d := ![8192]) _).trans (Eq.trans ?_ (Shape.rowMajor_val_three (d := ![1, 1, 8192]) _).symm)
      simp [ix1, ix3])

variable (dy : Vec Ideal S6x4096x1024 .fp8e5m2) (s : Vec Ideal S6x4096 .f32) (z : Vec Ideal S6x4096x16 .fp8e4m3)
  (zs : Vec Ideal S6x4096 .f32) (w : Vec Ideal S8192x1024 .fp8e4m3) (ws : Vec Ideal S8192 .f32)
  (la : Vec Ideal S8192x16 .bf16) (lb : Vec Ideal S16x1024 .bf16)

/-- The reference's `dh` is the gradient of the rank-16 activations. -/
theorem G10_apply (b : Fin 6) (t : Fin 4096) (r : Fin 16) :
    G10 dy s z zs w ws la lb (ix3 b t r) = Spec.dh dy s lb b t r := by
  unfold G10 k0_pay4
  refine Spec.mul_eq (Spec.mul_eq ?_ ?_) rfl
  · refine (matmul3_apply _ _ _ _ _ b t r).trans ?_
    rw [constant_apply, Ideal.ofBits_zero_f32, zero_add]; rfl
  · exact rowScale_apply (by decide) s _ _ b t r

/-- The reference's `db` is the gradient of `lora_b`. -/
theorem G9_apply (r : Fin 16) (o : Fin 1024) :
    G9 dy s z zs w ws la lb (ix2 r o) = Spec.db dy s z zs r o := by
  unfold G9 k0_pay3
  refine Spec.mul_eq rfl ((matmulBS_apply _ _ _ _ _ r o).trans ?_)
  rw [constant_apply, Ideal.ofBits_zero_f32, zero_add]
  refine Finset.sum_congr rfl fun b _ => Finset.sum_congr rfl fun t _ => ?_
  refine Spec.mul_eq (Spec.mul_eq rfl ?_) (Spec.mul_eq rfl ?_)
  · exact rowScale_apply (by decide) zs _ _ b t r
  · exact rowScale_apply (by decide) s _ _ b t o

/-- The reference's `dx` is the gradient of the input. -/
theorem G8_apply (b : Fin 6) (t : Fin 4096) (d : Fin 8192) :
    G8 dy s z zs w ws la lb (ix3 b t d) = Spec.dx dy s w ws la lb b t d := by
  unfold G8 k0_pay1 k0_pay5
  refine Spec.add_eq (Spec.mul_eq (Spec.mul_eq ?_ ?_) ?_) ?_
  · refine (matmul3_apply _ _ _ _ _ b t d).trans ?_
    rw [constant_apply, Ideal.ofBits_zero_f32, zero_add]
  · exact rowScale_apply (by decide) s _ _ b t d
  · exact colScale_apply ws _ _ b t d
  · refine (matmul3_apply _ _ _ _ _ b t d).trans ?_
    rw [constant_apply, Ideal.ofBits_zero_f32, zero_add]
    exact Finset.sum_congr rfl fun r _ => Spec.mul_eq (G10_apply dy s z zs w ws la lb b t r) rfl

end Cert.ReferenceIdeal.Val

end
-- ==== Proof.Equation.lean ====
/-
  The kernel's three results and the reference's are the same arrays in exact arithmetic.
-/
module

public import proofs.«01_k».proof.Proof.Arrays
public import proofs.«01_k».proof.Proof.Reference

@[expose] public section

set_option maxRecDepth 16384

noncomputable section

namespace Cert.Equation

open Cert.KernelIdeal Cert.KernelIdeal.Gen Cert.KernelIdeal.Val
open Idealize.ShloMosaic Idealize.ShloMosaic.TcCoe Idealize.ShloMosaic.ValueIdx
open Cert.ReferenceIdeal.Value (G8 G9 G10)

variable (m : (ℓ : Loc nD τ sig) → Buf (Elt Ideal) ℓ)

/-- Row `4096 b + t` of the flattened arrays. -/
def row (b : Fin 6) (t : Fin 4096) : Fin 24576 := ⟨b.val * 4096 + t.val, by have := b.isLt; have := t.isLt; omega⟩
/-- The row's sequence is `b`. -/
theorem seqOf_row (b : Fin 6) (t : Fin 4096) : Spec.seqOf (row b t).val = b :=
  Fin.ext (by have := b.isLt; have := t.isLt; show (b.val * 4096 + t.val) / 4096 % 6 = b.val; omega)
/-- The row's position is `t`. -/
theorem posOf_row (b : Fin 6) (t : Fin 4096) : Spec.posOf (row b t).val = t :=
  Fin.ext (by have := t.isLt; show (b.val * 4096 + t.val) % 4096 = t.val; omega)

/-- Reshaping `[24576, N]` to `[6, 4096, N]` moves row `4096 b + t` to `(b, t)`. -/
theorem unflatten_apply {N : ℕ} {α : Type} (x : (⟨2, ![24576, N]⟩ : Shape).Idx → α)
    (h : (⟨2, ![24576, N]⟩ : Shape).ShapeCasts ⟨3, ![6, 4096, N]⟩) (b : Fin 6) (t : Fin 4096) (n : Fin N) :
    shapeCast ⟨3, ![6, 4096, N]⟩ x h (ix3 b t n) = x (ix2 (row b t) n) :=
  shapeCast_apply x h (ix3 b t n) (ix2 (row b t) n) (by
    refine (Shape.rowMajor_val_two (d := ![24576, N]) _).trans (Eq.trans ?_ (Shape.rowMajor_val_three (d := ![6, 4096, N]) _).symm)
    show (row b t).val * N + n.val = (b.val * 4096 + t.val) * N + n.val
    exact congrArg (fun k => k * N + n.val) rfl)

/-- `dx` is the reference's. -/
theorem dx_eq (c : Dev nD) : shapeCast S6x4096x8192 ((dats m 0 c).arrAt 8 cfg0.N) shapeCasts_S24576x8192_S6x4096x8192
    = G8 (aDy m c) (aS m c) (aZ m c) (aZs m c) (aW m c) (aWs m c) (aLa m c) (aLb m c) := by
  rw [final8]
  funext j
  rw [eq_ix3 j]
  refine (unflatten_apply (arr8 m c) _ (j 0) (j 1) (j 2)).trans
    (Eq.trans ?_ (Cert.ReferenceIdeal.Val.G8_apply _ _ _ _ _ _ _ _ (j 0) (j 1) (j 2)).symm)
  exact congrArg₂ (fun b t => Spec.dx (aDy m c) (aS m c) (aW m c) (aWs m c) (aLa m c) (aLb m c) b t (j 2))
    (seqOf_row (j 0) (j 1)) (posOf_row (j 0) (j 1))

/-- The gradient of `lora_b` is the reference's. -/
theorem db_eq (c : Dev nD) : (dats m 0 c).arrAt 9 cfg0.N
    = G9 (aDy m c) (aS m c) (aZ m c) (aZs m c) (aW m c) (aWs m c) (aLa m c) (aLb m c) := by
  rw [final9]
  funext j
  exact (Cert.ReferenceIdeal.Val.G9_apply (aDy m c) (aS m c) (aZ m c) (aZs m c) (aW m c) (aWs m c) (aLa m c) (aLb m c) (j 0) (j 1)).symm.trans
    (congrArg (G9 (aDy m c) (aS m c) (aZ m c) (aZs m c) (aW m c) (aWs m c) (aLa m c) (aLb m c)) (eq_ix2 j).symm)

/-- `dh` is the reference's. -/
theorem dh_eq (c : Dev nD) : shapeCast S6x4096x16 ((dats m 0 c).arrAt 10 cfg0.N) shapeCasts_S24576x16_S6x4096x16
    = G10 (aDy m c) (aS m c) (aZ m c) (aZs m c) (aW m c) (aWs m c) (aLa m c) (aLb m c) := by
  rw [final10]
  funext j
  rw [eq_ix3 j]
  refine (unflatten_apply (arr10 m c) _ (j 0) (j 1) (j 2)).trans
    (Eq.trans ?_ (Cert.ReferenceIdeal.Val.G10_apply _ _ _ _ _ _ _ _ (j 0) (j 1) (j 2)).symm)
  exact congrArg₂ (fun b t => Spec.dh (aDy m c) (aS m c) (aLb m c) b t (j 2)) (seqOf_row (j 0) (j 1)) (posOf_row (j 0) (j 1))

end Cert.Equation

end
-- ==== Proof.lean ====
/-
  The claim assembled. The kernel's run (Run.lean) leaves arrays that hold the gradients of Spec.lean (Arrays.lean), the
  reference's results are the same gradients (Reference.lean, Equation.lean), and the kernel printed for the machine's
  floats is the program whose run is proved (Same.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Equation
public import Idealize.ShloMosaic.Lib.Claim

@[expose] public section

set_option maxRecDepth 16384

noncomputable section

namespace Cert.Proof

open Idealize.ShloMosaic Idealize.SL.Sem

/-- In exact arithmetic the kernel and the reference, run on equal arguments, end with equal results and with their
arguments unchanged. -/
theorem algebraic : Cert.algebraic_KernelIdeal_ReferenceIdeal
    (hKernelIdeal := Cert.KernelIdeal.Gen.facts) (hReferenceIdeal := Cert.ReferenceIdeal.Gen.facts) := by
  intro m g m' g' _ hargs
  have hK := (θ_run Cert.KernelIdeal.defs _ _).mono (fun r h (c : Dev Cert.KernelIdeal.nD) => And.intro (h.1 c).1
    (And.intro (h.1 c).2.1 (And.intro (h.1 c).2.2 (h.2.1 c))))
    (θ_run_and (Cert.KernelIdeal.Val.run_values m g) (Cert.KernelIdeal.Val.quiescent m g))
  refine ⟨_, _, _, hK, (θ_run Cert.ReferenceIdeal.defs _ _).mono (fun r h c => ?_) (Cert.ReferenceIdeal.Value.run m' g')⟩
  obtain ⟨h0, h1, h2, hk⟩ := h c
  obtain ⟨e0, e1, e2, e3, e4, e5, e6, e7⟩ := hargs c
  rw [e0, e1, e2, e3, e4, e5, e6, e7] at h0 h1 h2
  exact ⟨h0.trans (Cert.Equation.dx_eq m c).symm, h1.trans (Cert.Equation.db_eq m c).symm,
    h2.trans (Cert.Equation.dh_eq m c).symm, hk⟩

/-- Every claim of the certificate. -/
theorem claim : Cert.Claim := ⟨Cert.Kernel.Gen.facts, Cert.KernelIdeal.Gen.facts, Cert.ReferenceIdeal.Gen.facts,
  fun m ρ _ => Cert.Same.quiescent m ρ, fun m ρ _ => Cert.KernelIdeal.Val.quiescent m ρ,
  fun m ρ _ => Cert.ReferenceIdeal.Gen.frame m ρ, trivial, algebraic⟩

end Cert.Proof

end
